-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== Kernel.lean ====
abbrev S4x4096x3 : Shape := ⟨3, ![4, 4096, 3]⟩
abbrev S4x4096x4 : Shape := ⟨3, ![4, 4096, 4]⟩
abbrev S4x4096x16 : Shape := ⟨3, ![4, 4096, 16]⟩
abbrev S1x256x3 : Shape := ⟨3, ![1, 256, 3]⟩
abbrev S1x4096x3 : Shape := ⟨3, ![1, 4096, 3]⟩
abbrev S1x256x4 : Shape := ⟨3, ![1, 256, 4]⟩
abbrev S1x256x16 : Shape := ⟨3, ![1, 256, 16]⟩
abbrev S3x4096 : Shape := ⟨2, ![3, 4096]⟩
abbrev S1x4096 : Shape := ⟨2, ![1, 4096]⟩
abbrev S4096x3 : Shape := ⟨2, ![4096, 3]⟩
abbrev S4096 : Shape := ⟨1, ![4096]⟩
abbrev S256x3 : Shape := ⟨2, ![256, 3]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S16384x16 : Shape := ⟨2, ![16384, 16]⟩
abbrev S65536 : Shape := ⟨1, ![65536]⟩
abbrev S65536x16 : Shape := ⟨2, ![65536, 16]⟩
abbrev S2048 : Shape := ⟨1, ![2048]⟩
abbrev S2048x16 : Shape := ⟨2, ![2048, 16]⟩
abbrev S_ : Shape := ⟨0, ![]⟩
abbrev S65536x3 : Shape := ⟨2, ![65536, 3]⟩
abbrev S4x4096x4x3 : Shape := ⟨4, ![4, 4096, 4, 3]⟩

abbrev nBuf : Table → Nat
  | .hbm => 8
  | .local .tc .vmem => 10
  | .local .scVector .vmem => 2
  | _ => 0

abbrev bufTy : (tb : Table) → Fin (nBuf tb) → BufTy
  | .hbm, ⟨0, _⟩ => ⟨S4x4096x3, .f32⟩
  | .hbm, ⟨1, _⟩ => ⟨S4x4096x4, .i32⟩
  | .hbm, ⟨2, _⟩ => ⟨S4x4096x16, .f32⟩
  | .hbm, ⟨3, _⟩ => ⟨S16384x16, .f32⟩
  | .hbm, ⟨4, _⟩ => ⟨S65536, .i32⟩
  | .hbm, ⟨5, _⟩ => ⟨S65536x16, .f32⟩
  | .hbm, ⟨6, _⟩ => ⟨S65536x3, .f32⟩
  | .hbm, ⟨7, _⟩ => ⟨S4x4096x4x3, .f32⟩
  | .local .tc .vmem, ⟨0, _⟩ => ⟨S1x256x3, .f32⟩
  | .local .tc .vmem, ⟨1, _⟩ => ⟨S1x256x3, .f32⟩
  | .local .tc .vmem, ⟨2, _⟩ => ⟨S1x4096x3, .f32⟩
  | .local .tc .vmem, ⟨3, _⟩ => ⟨S1x4096x3, .f32⟩
  | .local .tc .vmem, ⟨4, _⟩ => ⟨S1x256x4, .i32⟩
  | .local .tc .vmem, ⟨5, _⟩ => ⟨S1x256x4, .i32⟩
  | .local .tc .vmem, ⟨6, _⟩ => ⟨S1x256x16, .f32⟩
  | .local .tc .vmem, ⟨7, _⟩ => ⟨S1x256x16, .f32⟩
  | .local .tc .vmem, ⟨8, _⟩ => ⟨S3x4096, .f32⟩
  | .local .tc .vmem, ⟨9, _⟩ => ⟨S1x4096, .f32⟩
  | .local .scVector .vmem, ⟨0, _⟩ => ⟨S2048, .i32⟩
  | .local .scVector .vmem, ⟨1, _⟩ => ⟨S2048x16, .f32⟩
  | _, _ => ⟨S4x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x3 : Shape := ⟨3, ![4, 4096, 3]⟩
abbrev S4x3x4096 : Shape := ⟨3, ![4, 3, 4096]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S4x4096x1 : Shape := ⟨3, ![4, 4096, 1]⟩
abbrev S4x4096x4 : Shape := ⟨3, ![4, 4096, 4]⟩
abbrev S4 : Shape := ⟨1, ![4]⟩
abbrev S4x1x1 : Shape := ⟨3, ![4, 1, 1]⟩
abbrev S65536 : Shape := ⟨1, ![65536]⟩
abbrev S16384x3 : Shape := ⟨2, ![16384, 3]⟩
abbrev S65536x1 : Shape := ⟨2, ![65536, 1]⟩
abbrev S65536x3 : Shape := ⟨2, ![65536, 3]⟩
abbrev S4x4096x4x3 : Shape := ⟨4, ![4, 4096, 4, 3]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x3x4096, .f32⟩
  | .hbm, ⟨2, _⟩ => ⟨S4x4096x3, .f32⟩
  | .hbm, ⟨3, _⟩ => ⟨S4x4096x4096, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S4x3x4096, .f32⟩
  | .hbm, ⟨8, _⟩ => ⟨S_, .f32⟩
  | .hbm, ⟨9, _⟩ => ⟨S4x4096, .f32⟩
  | .hbm, ⟨10, _⟩ => ⟨S4x1x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4x4096x4, .f32⟩
  | .hbm, ⟨18, _⟩ => ⟨S4x4096x4, .i32⟩
  | .hbm, ⟨19, _⟩ => ⟨S4, .i32⟩
  | .hbm, ⟨20, _⟩ => ⟨S4x1x1, .i32⟩
  | .hbm, ⟨21, _⟩ => ⟨S_, .i32⟩
  | .hbm, ⟨22, _⟩ => ⟨S4x1x1, .i32⟩
  | .hbm, ⟨23, _⟩ => ⟨S4x1x1, .i32⟩
  | .hbm, ⟨24, _⟩ => ⟨S4x4096x4, .i32⟩
  | .hbm, ⟨25, _⟩ => ⟨S4x4096x4, .i32⟩
  | .hbm, ⟨26, _⟩ => ⟨S65536, .i32⟩
  | .hbm, ⟨27, _⟩ => ⟨S4x4096x3, .f32⟩
  | .hbm, ⟨28, _⟩ => ⟨S16384x3, .f32⟩
  | .hbm, ⟨29, _⟩ => ⟨S_, .i32⟩
  | .hbm, ⟨30, _⟩ => ⟨S65536, .i32⟩
  | .hbm, ⟨31, _⟩ => ⟨S65536, .i1⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S65536, .i32⟩
  | .hbm, ⟨36, _⟩ => ⟨S65536x1, .i32⟩
  | .hbm, ⟨37, _⟩ => ⟨S65536x3, .f32⟩
  | .hbm, ⟨38, _⟩ => ⟨S4x4096x4x3, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_values : Ref sig .tc := ⟨.hbm, 17, rfl⟩
abbrev main_indices : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.ScTile.lean ====
/-
  The SparseCore gather of `KernelIdeal`, one task at a symbolic subcore: it fetches its 2048 row numbers, gathers those
  rows of the table and writes them to its 2048 rows of the output. The run carries the value: the first three columns of
  an output row are those of the table's row that the list names. The launch set-up follows 07_sparsecore's Indirect.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.ValueIdxCore
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

local notation "tV" => (Memref.whole Cert.KernelIdeal.main_v1_scv : Memref Cert.KernelIdeal.sig Kind.scVector Space.hbm Cert.KernelIdeal.S16384x16 EltTy.f32)
local notation "iV" => (Memref.whole Cert.KernelIdeal.main_v2_scv : Memref Cert.KernelIdeal.sig Kind.scVector Space.hbm Cert.KernelIdeal.S65536 EltTy.i32)
local notation "oV" => (Memref.whole Cert.KernelIdeal.main_v3_scv : Memref Cert.KernelIdeal.sig Kind.scVector Space.hbm Cert.KernelIdeal.S65536x16 EltTy.f32)
local notation "sV" => (Memref.whole Cert.KernelIdeal.cc1_scratch0 : Memref Cert.KernelIdeal.sig Kind.scVector Space.vmem Cert.KernelIdeal.S2048 EltTy.i32)
local notation "rV" => (Memref.whole Cert.KernelIdeal.cc1_scratch1 : Memref Cert.KernelIdeal.sig Kind.scVector Space.vmem Cert.KernelIdeal.S2048x16 EltTy.f32)

theorem idiv : 32 ∣ S65536.size 0 := ⟨2048, rfl⟩
theorem odiv : 32 ∣ S65536x16.size 0 := ⟨2048, rfl⟩
/-- Block `w` of the row numbers, and of the output's rows. -/
abbrev irow (w : Fin 32) : Rect S65536 := Rect.part (s := S65536) (a₀ := 0) idiv w
abbrev orow (w : Fin 32) : Rect S65536x16 := Rect.part (s := S65536x16) (a₀ := 0) odiv w
abbrev iRowSet (w : Fin 32) : Finset S65536.Idx := ((iV).view.slice (irow w)).set
abbrev oRowSet (w : Fin 32) : Finset S65536x16.Idx := ((oV).view.slice (orow w)).set

/-- The share of the table that worker `w` reads under. -/
abbrev tq (w : Fin 32) : PosShare TreeShare := ShareLeaves.leaf 5 fullShare w

/-- Row `n` (taken below 16384) and column `k` of the table. -/
abbrev tix (n : ℕ) (k : Fin 16) : S16384x16.Idx := ix2 (⟨n % 16384, Nat.mod_lt _ (by decide)⟩ : Fin 16384) k

/-- The element of the table that output element `r` names: the list's row for `r`'s row, in `r`'s column. -/
abbrev nameOf (fi : S65536.Idx → BitVec 32) (r : S65536x16.Idx) : S16384x16.Idx := tix (fi (ix1 (r 0))).toNat (r 1)

variable [FloatOps F]
variable (fi : Dev nD → S65536.Idx → BitVec 32) (tv : Dev nD → S16384x16.Idx → F .f32)

/-! ## What the handshakes carry -/

/-- The table at `ft` agrees with `tv` on its first three columns. -/
abbrev TabOK (d : Dev nD) (ft : S16384x16.Idx → F .f32) : Prop := ∀ j : S16384x16.Idx, (j 1).val < 3 → ft j = tv d j
/-- Block `w` of the output at `fo` holds, in its first three columns, the table's named elements. -/
abbrev OutOK (d : Dev nD) (w : Fin 32) (fo : S65536x16.Idx → F .f32) : Prop :=
  ∀ r ∈ oRowSet w, (r 1).val < 3 → fo r = tv d (nameOf (fi d) r)

/-- A worker's share of the table, -/
abbrev tabPts (d : Dev nD) (w : Fin 32) : sProp 𝕄 :=
  iprop(∃ ft : Buf (Elt F) (tLoc d), ⌜TabOK tv d ft⌝ ∗ tLoc d ↦{tq w} ft)
/-- its block of the list, -/
abbrev idxPts (d : Dev nD) (w : Fin 32) : sProp 𝕄 := iLoc d ↦[iRowSet w]{fullShare} (fi d : Buf (Elt F) (iLoc d))
/-- its block of the output before -/
abbrev outPts (d : Dev nD) (w : Fin 32) : sProp 𝕄 := iprop(∃ f : Buf (Elt F) (oLoc d), oLoc d ↦[oRowSet w]{fullShare} f)
/-- and after. -/
abbrev donePts (d : Dev nD) (w : Fin 32) : sProp 𝕄 :=
  iprop(∃ f : Buf (Elt F) (oLoc d), ⌜OutOK fi tv d w f⌝ ∗ oLoc d ↦[oRowSet w]{fullShare} f)
/-- What worker `w` takes. -/
abbrev takePts (d : Dev nD) (w : Fin 32) : sProp 𝕄 := iprop(tabPts tv d w ∗ idxPts (F := F) fi d w ∗ outPts (F := F) d w)

/-- The worker of subcore `i` of SparseCore `c`. -/
def wid (c : Fin 2) (i : Fin 16) : Fin 32 := ⟨2 * i.val + c.val, by omega⟩

/-- Each SparseCore takes its sixteen workers' pieces and brings their blocks of the output back. -/
def P : (K (F := F)).Pay (nD := nD) (Val := Elt F) (Name := ℕ) (U := UU) where
  st := fun q d c => match q with | 0 => bigSep Finset.univ fun i : Fin 16 => takePts fi tv d (wid (Fin.cast nCore_zero c) i)
  dn := fun q d c => match q with | 0 => bigSep Finset.univ fun i : Fin 16 => donePts fi tv d (wid (Fin.cast nCore_zero c) i)
  go := fun q d c i => match q with | 0 => takePts fi tv d (wid (Fin.cast nCore_zero c) (Fin.cast nSub_zero i))
  td := fun q d c i => match q with | 0 => donePts fi tv d (wid (Fin.cast nCore_zero c) (Fin.cast nSub_zero i))
  x := fun _ _ => iprop(emp)

instance P_storable : (P (F := F) fi tv).IsStorable where
  st q d c := match q with
    | 0 => (inferInstance : BI.Storable (upEmb : UEmb _ 𝕄) (bigSep Finset.univ fun i : Fin 16 => takePts fi tv d (wid (Fin.cast nCore_zero c) i)))
  dn q d c := match q with
    | 0 => (inferInstance : BI.Storable (upEmb : UEmb _ 𝕄) (bigSep Finset.univ fun i : Fin 16 => donePts fi tv d (wid (Fin.cast nCore_zero c) i)))
  go q d c i := match q with
    | 0 => (inferInstance : BI.Storable (upEmb : UEmb _ 𝕄) (takePts fi tv d (wid (Fin.cast nCore_zero c) (Fin.cast nSub_zero i))))
  td q d c i := match q with
    | 0 => (inferInstance : BI.Storable (upEmb : UEmb _ 𝕄) (donePts fi tv d (wid (Fin.cast nCore_zero c) (Fin.cast nSub_zero i))))

/-! ## The task -/

section Tile

variable (d : Dev nD) (L : grid1.Coords)

abbrev cV (L : grid1.Coords) : Fin τ.nSC := (L 0).castLE hcore1
abbrev jV (L : grid1.Coords) : Fin τ.nSub := (L 1).castLE hsub1
abbrev wL (L : grid1.Coords) : Fin 32 := wid (L 0) (L 1)

omit [FloatOps F] in
/-- The worker's number, spelled out. -/
theorem wL_val : (wL L).val = 2 * (L 1).val + (L 0).val := rfl

abbrev irowK (L : grid1.Coords) : Rect S65536 := Rect.unit (s := S65536) (k1_off1 L) S2048.size (k1_off1_inb L)
abbrev orowK (L : grid1.Coords) : Rect S65536x16 := Rect.unit (s := S65536x16) (k1_off2 L) S2048x16.size (k1_off2_inb L)
/-- The task's rows of the list and of the output, and all of the table, as it addresses them. -/
abbrev iRowK (L : grid1.Coords) : Memref sig .scVector .hbm S2048 .i32 := (iV).slice (irowK L) (fun _ => rfl)
abbrev oRowK (L : grid1.Coords) : Memref sig .scVector .hbm S2048x16 .f32 := (oV).slice (orowK L) (fun _ => rfl)
abbrev tAllK : Memref sig .scVector .hbm S16384x16 .f32 := (tV).slice (Rect.unit (s := S16384x16) ![0, 0] S16384x16.size inb_S16384x16_S16384x16_0_0) (fun _ => rfl)

omit [FloatOps F] in
theorem irowK_eq : irowK L = irow (wL L) := by
  unfold irowK irow Rect.part Rect.block
  congr 1 <;> funext a
  · rw [k1_off1_eq]
    match a with
    | 0 => simp [Shape.partIx, Shape.partSize]; have := wL_val L; omega
  · match a with
    | 0 => simp [Shape.partSize]
omit [FloatOps F] in
theorem orowK_eq : orowK L = orow (wL L) := by
  unfold orowK orow Rect.part Rect.block
  congr 1 <;> funext a
  · rw [k1_off2_eq]
    match a with
    | 0 => simp [Shape.partIx, Shape.partSize]; have := wL_val L; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_tV (q : PosShare TreeShare) (f : Buf (Elt F) (tLoc d)) :
    ((tAllK).view.loc (V d (cV L) (jV L)) ↦{q} f : sProp 𝕄) = tLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
/-- The subcore's semaphores are the list's, the gather's and the write-out's, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- Place `x` of the task's list is place `2048 · w + x` of the whole list. -/
theorem iRowK_emb (x : S2048.Idx) : ((iRowK L).view.emb x 0).val = 2048 * (wL L).val + (x 0).val := by
  show (((irowK L).emb x) 0).val = _
  simp [k1_off1_eq]; have := wL_val L; omega
omit [FloatOps F] in
/-- Row `y 0` of the task's output is row `2048 · w + y 0` of the whole output, -/
theorem oRowK_emb0 (y : S2048x16.Idx) : ((oRowK L).view.emb y 0).val = 2048 * (wL L).val + (y 0).val := by
  show (((orowK L).emb y) 0).val = _
  simp [k1_off2_eq]; have := wL_val L; omega
omit [FloatOps F] in
/-- in the same column. -/
theorem oRowK_emb1 (y : S2048x16.Idx) : ((oRowK L).view.emb y 1).val = (y 1).val := by
  show (((orowK L).emb y) 1).val = _
  simp [k1_off2_eq]

/-- Writing over the task's output rows a payload of the named elements leaves its block as wanted. -/
theorem outOK_of (fo : Buf (Elt F) (oLoc d)) (pay : S2048x16.Idx → F .f32)
    (h : ∀ y : S2048x16.Idx, (y 1).val < 3 → pay y = tv d (nameOf (fi d) ((oRowK L).view.emb y))) :
    OutOK fi tv d (wL L) ((oRowK L).view.writes (Elt F) fo [⟨Rect.whole S2048x16, pay⟩]) := by
  intro r hr hc
  rw [← set_oRowK] at hr
  obtain ⟨y, rfl⟩ : ∃ y, (oRowK L).view.emb y = r := by
    simpa [View.set, View.setOn] using hr
  have hy : (y 1).val < 3 := by rw [← oRowK_emb1 L y]; exact hc
  rw [← h y hy]
  refine Eq.trans ?_ (congrFun (View.read_writes_whole (oRowK L).view fo pay) y)
  exact ((View.read_apply _ _).trans (cast_eq _ _)).symm

/-- What the gather lands: the table's row that the list names, in the same column. -/
theorem gather_value (hin : ∀ d x, (fi d x).toNat < 16384) (ft : Buf (Elt F) (tLoc d)) (hft : TabOK tv d ft)
    (idx : S2048.Idx → BitVec 32) (hidx : ∀ x, idx x = fi d ((iRowK L).view.emb x))
    (hn : S2048.numel = S2048x16.size (gathers_S16384x16_S2048x16).axis') (hb : ∀ x, (idx x).toNat < S16384x16.size (gathers_S16384x16_S2048x16).axis)
    (y : S2048x16.Idx) (hy : (y 1).val < 3) :
    SparseCore.gatherPayload (F := F) (e := .f32) gathers_S16384x16_S2048x16 ((tAllK).view.read (Elt F) ft)
      (SparseCore.rows (F := F) idx hn hb) y = tv d (nameOf (fi d) ((oRowK L).view.emb y)) := by
  have e : ∀ z : S16384x16.Idx, (tAllK).view.read (Elt F) ft z = ft z := fun z => by
    refine (View.read_apply _ _).trans ((cast_eq _ _).trans (congrArg ft ?_))
    funext a; apply Fin.ext
    match a with
    | 0 => show 0 + 1 * (z 0).val = _; omega
    | 1 => show 0 + 1 * (z 1).val = _; omega
  have hx : fi d (ix1 ((oRowK L).view.emb y 0)) = idx (S2048.rowMajor.symm ((y 0).cast (by decide))) := by
    rw [hidx]; congr 1
    funext a; apply Fin.ext
    match a with
    | 0 =>
      refine (oRowK_emb0 L y).trans ((iRowK_emb L _).trans ?_).symm
      congr 1
      have := Shape.rowMajor_val_one (S2048.rowMajor.symm ((y 0).cast (by decide)))
      rw [← this]; simp; rfl
  refine (e _).trans ?_
  have hz : gathers_S16384x16_S2048x16.idx (SparseCore.rows (F := F) idx hn hb) y = nameOf (fi d) ((oRowK L).view.emb y) := by
    funext a; apply Fin.ext
    match a with
    | 0 =>
      show (idx _).toNat = (fi d (ix1 ((oRowK L).view.emb y 0))).toNat % 16384
      rw [Nat.mod_eq_of_lt (hin d _), hx]; rfl
    | 1 => exact (oRowK_emb1 L y).symm
  rw [hz]
  exact hft _ (by rw [show (nameOf (fi d) ((oRowK L).view.emb y) 1).val = (y 1).val from oRowK_emb1 L y]; exact hy)

/-- What the list's fetch landed names rows of the table. -/
theorem inb_list (hin : ∀ d x, (fi d x).toNat < 16384) (fs : Buf (Elt F) ((V d (cV L) (jV L)).loc cc1_scratch0)) (pay : S2048.Idx → Elt F .i32)
    (hpay : pay = (iRowK L).view.read (Elt F) (fi d : Buf (Elt F) (iLoc d))) :
    ∀ x, ((sV).view.read (Elt F) (View.write (Elt F) (sV).view fs pay Finset.univ) x).toNat < S16384x16.size gathers_S16384x16_S2048x16.axis := by
  subst hpay; intro x
  rw [View.write_whole_univ]
  simp only [Memref.view_whole, View.read_whole]
  rw [show ∀ j, (iRowK L).view.read (Elt F) (fi d : Buf (Elt F) (iLoc d)) j = fi d ((iRowK L).view.emb j) from fun j => (View.read_apply _ _).trans (cast_eq _ _)]
  exact hin d _

set_option maxHeartbeats 4000000 in
/-- The task on vector subcore `(L 0, L 1)`: from its share of the table, its block of the list and its block of the
    output, it ends with its block of the output at the named elements. -/
theorem tile_body (hF : (K (F := F)).Facts) (hin : ∀ d x, (fi d x).toNat < 16384) (O : CellTallies nD τ sig (HIx 1)) (W : Waits sig (HIx 1)) (hO : ∀ g, O g none = 0) :
    iprop(levAts (K (F := F)).L (K (F := F)).lev ∗ emp ∗ takePts fi tv d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather L tV (Memref.isWhole_whole _) iV (Memref.isWhole_whole _) oV (Memref.isWhole_whole _)
            sV (Memref.isWhole_whole _) rV (Memref.isWhole_whole _) cc1_scratch2 cc1_scoped0 cc1_scoped1)
          fun _ => iprop(donePts fi tv d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel
  rw [(K (F := F)).scopedBufs_V hF d (cV L) (jV L), SparseCore.Cfg.scopedSems0_V (Val := Elt F) d (cV L) (jV L), ownSems0_V, ownBufs_V]
  iintro ⟨#Hlv, -, ⟨⟨%ft, %hft, Ht⟩, Hi, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hN : ∀ h : S16384x16.Gathers 0 S2048x16, ∑ j, ((rV).slice (S2048x16.rowRect h.axis' j) (S2048x16.stride_rowRect h.axis' j)).view.dmaCredit
      = (rV).view.dmaCredit := fun h => SparseCore.sum_rowCredit_eq_dmaCredit (rV) h.axis' (fun _ => rfl)
  iapply (SparseCore.wp_gatherFromWhole countersEmb 𝒱₀ (V d (cV L) (jV L)) none (hg := gathers_S16384x16_S2048x16) (default : HIx 1)
      (rV).view.dmaCredit (hN _) (by decide) (inb_list fi d L hin fs _ rfl)) $$ [Ht' Hr' Hs' HsemB]
  · isplitl [Ht']; · iexact Ht'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Ht', Hs'⟩, HsemB, HO⟩
  sl_exec
  sl_step
  isplitl [Ho']
  · iexists _; isplitr
    swap; · iapply (Entails.of_eq (pts_oRowK (F := F) d L _)); iexact Ho'
    ipureintro
    refine outOK_of fi tv d L fo _ fun y hy => ?_
    refine Eq.trans ?_ (gather_value fi tv d L hin ft hft _ ?_ (by decide) (inb_list fi d L hin fs _ rfl) y hy)
    · exact congrFun (View.read_write_univ (v := (rV).view) fr _) y
    · intro x
      rw [View.write_whole_univ]
      simp only [Memref.view_whole, View.read_whole]
      exact (View.read_apply _ _).trans (cast_eq _ _)
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The body the program runs on a vector subcore. -/
theorem defs₀_vector (c : Fin τ.nSC) (s : Fin τ.nSub) :
    defs₀ (F := F) (.scVector c s) 1 ()
      = SparseCore.onTile hcore1 hsub1 (fun c s => cc1__sc_gather (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
/-- The waits a task adds are among those its obligation admits. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation. -/
theorem tileObl (hF : (K (F := F)).Facts) (hin : ∀ d x, (fi d x).toNat < 16384) : (K (F := F)).TileObl (D (F := F)) 𝒱 (P fi tv) v₀ 0 := by
  intro d c i O W hO _ _
  simp only [show (P (F := F) fi tv).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi tv d (coordsV ⟨_, hci.1⟩ ⟨_, hci.2⟩) hF hin O W hO).trans (wp_mono frame _ _ fun _ => waits_weaken)

end Tile

/-- A SparseCore's piece is its sixteen workers'. -/
theorem vecSplit : (K (F := F)).VecSplit' (P fi tv) 0 := by
  intro d c
  show (bigSep Finset.univ fun i : Fin 16 => takePts fi tv d (wid (Fin.cast nCore_zero c) i)) ⊢ |={Set.univ}=> iprop(
      (bigSep Finset.univ fun i : Fin 16 => takePts fi tv d (wid (Fin.cast nCore_zero c) i))
      ∗ ((bigSep Finset.univ fun i : Fin 16 => donePts fi tv d (wid (Fin.cast nCore_zero c) i))
          -∗ bigSep Finset.univ fun i : Fin 16 => donePts fi tv d (wid (Fin.cast nCore_zero c) i)))
  iintro H; imodintro
  isplitl [H]; · iexact H
  iintro H; iexact H

end Cert.Proof.Knn
end
-- ==== Proof.ScCall.lean ====
/-
  The SparseCore call's operands dealt to its thirty-two workers, and what they bring back joined: the whole output, which holds
  in its first three columns the table's rows that the list names.
-/
module

public import proofs.«01_k».proof.Proof.ScTile

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## The workers -/

/-- A worker's number, from its SparseCore and its subcore. -/
def workers : Fin 2 × Fin 16 ≃ Fin 32 where
  toFun p := wid p.1 p.2
  invFun w := (⟨w.val % 2, Nat.mod_lt _ (by decide)⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

theorem bigSep_workers (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv workers Φ, bigSep_univ_prod]
  rfl

/-! ## The rows -/

theorem iRowSet_eq (w : Fin 32) : iRowSet w = (irow w).set := by
  show ((View.whole (main_v2_scv : Ref sig .scVector)).slice (irow w)).set = _
  rw [View.set_slice]; exact Finset.map_refl
theorem oRowSet_eq (w : Fin 32) : oRowSet w = (orow w).set := by
  show ((View.whole (main_v3_scv : Ref sig .scVector)).slice (orow w)).set = _
  rw [View.set_slice]; exact Finset.map_refl
theorem iRows_disjoint : ∀ v ∈ (Finset.univ : Finset (Fin 32)), ∀ w ∈ (Finset.univ : Finset (Fin 32)), v ≠ w → Disjoint (iRowSet v) (iRowSet w) :=
  fun v _ w _ h => by rw [iRowSet_eq, iRowSet_eq]; exact Rect.part_disjoint idiv h
theorem oRows_disjoint : ∀ v ∈ (Finset.univ : Finset (Fin 32)), ∀ w ∈ (Finset.univ : Finset (Fin 32)), v ≠ w → Disjoint (oRowSet v) (oRowSet w) :=
  fun v _ w _ h => by rw [oRowSet_eq, oRowSet_eq]; exact Rect.part_disjoint odiv h
theorem iRows_cover : (Finset.univ : Finset (Fin 32)).biUnion iRowSet = Finset.univ :=
  (Finset.biUnion_congr rfl fun w _ => iRowSet_eq w).trans (Rect.biUnion_part idiv)
theorem oRows_cover : (Finset.univ : Finset (Fin 32)).biUnion oRowSet = Finset.univ :=
  (Finset.biUnion_congr rfl fun w _ => oRowSet_eq w).trans (Rect.biUnion_part odiv)

/-! ## The call's two ends -/

variable (fi : Dev nD → S65536.Idx → BitVec 32) (tv : Dev nD → S16384x16.Idx → F .f32)

/-- One worker's part of what is taken. -/
theorem take_intro (d : Dev nD) (ft : S16384x16.Idx → F .f32) (h : TabOK tv d ft) (w : Fin 32) (f : Buf (Elt F) (oLoc d)) :
    iprop((tLoc d ↦{tq w} (ft : Buf (Elt F) (tLoc d))) ∗ idxPts (F := F) fi d w ∗ (oLoc d ↦[oRowSet w]{fullShare} f)) ⊢ (takePts fi tv d w : sProp 𝕄) := by
  unfold takePts tabPts outPts
  iintro ⟨Ht, Hi, Ho⟩
  isplitl [Ht]
  · iexists ft
    isplitr; · ipureintro; exact h
    iexact Ht
  isplitl [Hi]; · iexact Hi
  iexists f; iexact Ho

/-- The table, the list and the output make what the two SparseCores take. -/
theorem call_take (d : Dev nD) (ft : S16384x16.Idx → F .f32) (h : TabOK tv d ft) (f : Buf (Elt F) (oLoc d)) :
    iprop((tLoc d ↦{fullShare} (ft : Buf (Elt F) (tLoc d))) ∗ (iLoc d ↦{fullShare} (fi d : Buf (Elt F) (iLoc d))) ∗ (oLoc d ↦{fullShare} f))
      ⊢ (bigSep Finset.univ fun c : Fin ((K (F := F)).nCore 0) => (P fi tv).st 0 d c : sProp 𝕄) := by
  rw [show (bigSep Finset.univ fun c : Fin ((K (F := F)).nCore 0) => (P fi tv).st 0 d c : sProp 𝕄) = bigSep Finset.univ (takePts fi tv d) from
    bigSep_workers (takePts fi tv d)]
  rw [show (tLoc d ↦{fullShare} (ft : Buf (Elt F) (tLoc d)) : sProp 𝕄) = bigSep Finset.univ fun w : Fin 32 => tLoc d ↦{tq w} (ft : Buf (Elt F) (tLoc d)) from
      ShareLeaves.pointsTo_leaves Finset.univ _ 5 fullShare,
    show (iLoc d ↦{fullShare} (fi d : Buf (Elt F) (iLoc d)) : sProp 𝕄) = bigSep Finset.univ fun w : Fin 32 => idxPts (F := F) fi d w from by
      rw [← pointsTo_biUnion Finset.univ (ℓ := iLoc d) iRowSet iRows_disjoint, iRows_cover],
    show (oLoc d ↦{fullShare} f : sProp 𝕄) = bigSep Finset.univ fun w : Fin 32 => oLoc d ↦[oRowSet w]{fullShare} f from by
      rw [← pointsTo_biUnion Finset.univ (ℓ := oLoc d) oRowSet oRows_disjoint, oRows_cover],
    ← bigSep_sep', ← bigSep_sep']
  refine bigSep_mono fun w _ => ?_
  exact take_intro fi tv d ft h w f

/-- What they bring back is the whole output, at the named rows' first three columns. -/
theorem call_done (d : Dev nD) :
    (bigSep Finset.univ fun c : Fin ((K (F := F)).nCore 0) => (P fi tv).dn 0 d c : sProp 𝕄)
      ⊢ iprop(∃ g : Buf (Elt F) (oLoc d), ⌜∀ r : S65536x16.Idx, (r 1).val < 3 → g r = tv d (nameOf (fi d) r)⌝ ∗ (oLoc d ↦{fullShare} g)) := by
  rw [show (bigSep Finset.univ fun c : Fin ((K (F := F)).nCore 0) => (P fi tv).dn 0 d c : sProp 𝕄) = bigSep Finset.univ (donePts fi tv d) from
    bigSep_workers (donePts fi tv d)]
  refine (bigSep_exists_pi Finset.univ (fun w (f : Buf (Elt F) (oLoc d)) => iprop(⌜OutOK fi tv d w f⌝ ∗ oLoc d ↦[oRowSet w]{fullShare} f))).trans ?_
  iintro ⟨%fs, H⟩
  ihave H2 := (bigSep_pure_sep Finset.univ (fun w => OutOK fi tv d w (fs w)) (fun w => oLoc d ↦[oRowSet w]{fullShare} fs w)) $$ H
  icases H2 with ⟨%hfs, H⟩
  have : Nonempty (Buf (Elt F) (oLoc d)) := ⟨fs 0⟩
  ihave H' := (pointsTo_biUnion_join (ℓ := oLoc d) (q := fullShare) (Val := Elt F) Finset.univ oRowSet fs (fs 0) oRows_disjoint) $$ H
  icases H' with ⟨%g, %hg, Hg⟩
  rw [oRows_cover]
  iexists g
  isplitr
  · ipureintro
    intro r hr
    obtain ⟨w, hw⟩ := Rect.exists_mem_part odiv r
    rw [← oRowSet_eq] at hw
    exact (hg w (Finset.mem_univ _) r hw).trans (hfs w (Finset.mem_univ _) r hw hr)
  iexact Hg

end Cert.Proof.Knn
end
-- ==== Proof.TcRun.lean ====
/-
  The TensorCore body of `KernelIdeal` at one grid point: from the query block, the cloud block and the two scratch arrays
  it leaves the four index columns and the three table columns; at a cloud's first point it also fills the scratch arrays.
-/
module

public import proofs.«01_k».proof.Proof.ScTile
public import proofs.«01_k».proof.Proof.Gen.KernelIdeal.Points
public import Idealize.ShloMosaic.Lib.Memref
public import Idealize.ShloMosaic.Lib.Writes
public import Idealize.ShloMosaic.Lib.WritesUnit
public import Idealize.ShloMosaic.Lib.Pipeline.Value

@[expose] public section

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-- The column numbers of a distance block. -/
abbrev colNo : IVec S256x4096 32 := iota .tc S256x4096 32 [1] iota_S256x4096_d1_w32
/-- The first row number of cloud `i 0` in the flattened table. -/
abbrev baseNo (i : grid0.Coords) : BitVec 32 := Scalar.muli (BitVec.ofNat 32 (i 0).val) 4096#32

/-- The branch the body takes at a cloud's first point. -/
abbrev first (i : grid0.Coords) : Prop :=
  Scalar.cmpi .ne (Scalar.extui (Scalar.cmpi .eq (BitVec.ofNat 32 (i 1).val) 0#32) : BitVec 32) 0#32 = 1#1

theorem first_of_zero (i : grid0.Coords) (h : (i 1).val = 0) : first i := by
  unfold first; rw [h]; decide
theorem not_first_of_ne (i : grid0.Coords) (h : (i 1).val ≠ 0) : ¬ first i := by
  have h16 : (i 1).val < 16 := (i 1).isLt
  unfold first
  generalize (i 1).val = n at h h16
  interval_cases n <;> first | exact absurd rfl h | decide

/-! ## What a point leaves -/

/-- The four columns of row numbers the body stores, from the query block and the scratch arrays. -/
def idxCol (i : grid0.Coords) (x : Vec F S1x256x3 .f32) (s0 : FVec F S3x4096 .f32) (s1 : FVec F S1x4096 .f32) : Fin 4 → IVec S1x256x1 32 :=
  ![k0_pay10 (k0_pay9 i x s0 s1),
    k0_pay13 (k0_pay7 x s0 s1) colNo (baseNo i) (k0_pay8 x s0 s1),
    k0_pay16 (k0_pay7 x s0 s1) colNo (baseNo i) (k0_pay8 x s0 s1),
    k0_pay1 colNo (baseNo i) (k0_pay17 (k0_pay7 x s0 s1) colNo (k0_pay8 x s0 s1))]

/-- The block of row numbers: its column `k` is the `k`-th stored column. -/
def idxBlk (i : grid0.Coords) (x : Vec F S1x256x3 .f32) (s0 : FVec F S3x4096 .f32) (s1 : FVec F S1x4096 .f32) : IVec S1x256x4 32 :=
  fun j => idxCol i x s0 s1 (j 2) (ix3 (0 : Fin 1) (j 1) (0 : Fin 1))

/-- A table block that holds the query block in its first three columns. -/
def TblOK (x : Vec F S1x256x3 .f32) (X : Vec F S1x256x16 .f32) : Prop :=
  ∀ j : S1x256x16.Idx, ∀ h : (j 2).val < 3, X j = x (ix3 (0 : Fin 1) (j 1) (⟨(j 2).val, h⟩ : Fin 3))

theorem hz3 : (![0, 0, 0] : Fin 3 → Nat) = fun _ => 0 := funext fun a => by fin_cases a <;> rfl
theorem hz2 : (![0, 0] : Fin 2 → Nat) = fun _ => 0 := funext fun a => by fin_cases a <;> rfl

/-- Reading back one store over the whole of a view. -/
theorem read_whole_store {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h; exact View.read_writes_whole v f w

/-- Reading back the four one-column stores. -/
theorem read_cols {κ : Kind} {sp : Space} (v : View sig κ sp S1x256x4 .i32) (f : v.ty.Contents (Elt F)) (w0 w1 w2 w3 : IVec S1x256x1 32) :
    v.read (Elt F) (v.writes (Elt F) f
      [⟨Rect.unit (s := S1x256x4) ![0, 0, 3] S1x256x1.size inb_S1x256x4_S1x256x1_0_0_3, w3⟩,
       ⟨Rect.unit (s := S1x256x4) ![0, 0, 2] S1x256x1.size inb_S1x256x4_S1x256x1_0_0_2, w2⟩,
       ⟨Rect.unit (s := S1x256x4) ![0, 0, 1] S1x256x1.size inb_S1x256x4_S1x256x1_0_0_1, w1⟩,
       ⟨Rect.unit (s := S1x256x4) ![0, 0, 0] S1x256x1.size inb_S1x256x4_S1x256x1_0_0_0, w0⟩])
      = fun j => (![w0, w1, w2, w3] : Fin 4 → IVec S1x256x1 32) (j 2) (ix3 (0 : Fin 1) (j 1) (0 : Fin 1)) := by
  funext j
  obtain ⟨a, r, k, rfl⟩ : ∃ (a : Fin 1) (r : Fin 256) (k : Fin 4), j = ix3 a r k := ⟨j 0, j 1, j 2, eq_ix3 j⟩
  have ha : a.val = 0 := by omega
  match k with
  | 3 => exact View.read_writes_cons_unit_of_mem v f _ _ _ _ (ix3 (0 : Fin 1) r (0 : Fin 1)) rfl fun x => by
            match x with
            | ⟨0, _⟩ => exact ha
            | ⟨1, _⟩ => exact (Nat.zero_add _).symm
            | ⟨2, _⟩ => rfl
  | 2 =>
    rw [View.read_writes_cons_unit_of_not_mem v f _ _ _ _ rfl (2 : Fin 3) (Or.inl (show 2 < 3 by decide))]
    exact View.read_writes_cons_unit_of_mem v f _ _ _ _ (ix3 (0 : Fin 1) r (0 : Fin 1)) rfl fun x => by
            match x with
            | ⟨0, _⟩ => exact ha
            | ⟨1, _⟩ => exact (Nat.zero_add _).symm
            | ⟨2, _⟩ => rfl
  | 1 =>
    rw [View.read_writes_cons_unit_of_not_mem v f _ _ _ _ rfl (2 : Fin 3) (Or.inl (show 1 < 3 by decide)),
      View.read_writes_cons_unit_of_not_mem v f _ _ _ _ rfl (2 : Fin 3) (Or.inl (show 1 < 2 by decide))]
    exact View.read_writes_cons_unit_of_mem v f _ _ _ _ (ix3 (0 : Fin 1) r (0 : Fin 1)) rfl fun x => by
            match x with
            | ⟨0, _⟩ => exact ha
            | ⟨1, _⟩ => exact (Nat.zero_add _).symm
            | ⟨2, _⟩ => rfl
  | 0 =>
    rw [View.read_writes_cons_unit_of_not_mem v f _ _ _ _ rfl (2 : Fin 3) (Or.inl (show 0 < 3 by decide)),
      View.read_writes_cons_unit_of_not_mem v f _ _ _ _ rfl (2 : Fin 3) (Or.inl (show 0 < 2 by decide)),
      View.read_writes_cons_unit_of_not_mem v f _ _ _ _ rfl (2 : Fin 3) (Or.inl (show 0 < 1 by decide))]
    exact View.read_writes_cons_unit_of_mem v f _ _ _ _ (ix3 (0 : Fin 1) r (0 : Fin 1)) rfl fun x => by
            match x with
            | ⟨0, _⟩ => exact ha
            | ⟨1, _⟩ => exact (Nat.zero_add _).symm
            | ⟨2, _⟩ => rfl

/-- The store of the query block puts it in the table block's first three columns. -/
theorem read_tbl {κ : Kind} {sp : Space} (v : View sig κ sp S1x256x16 .f32) (f : v.ty.Contents (Elt F)) (x : Vec F S1x256x3 .f32) :
    TblOK x (v.read (Elt F) (v.writes (Elt F) f
      [⟨Rect.unit (s := S1x256x16) ![0, 0, 0] S1x256x3.size inb_S1x256x16_S1x256x3_0_0_0, k0_pay6 x⟩])) := by
  intro j h
  obtain ⟨a, r, k, rfl⟩ : ∃ (a : Fin 1) (r : Fin 256) (k : Fin 16), j = ix3 a r k := ⟨j 0, j 1, j 2, eq_ix3 j⟩
  refine (View.read_writes_cons_unit_of_mem v f _ _ _ _ (ix3 (0 : Fin 1) r (⟨k.val, h⟩ : Fin 3)) rfl fun y => ?_).trans ?_
  · match y with
    | ⟨0, _⟩ => show a.val = 0; omega
    | ⟨1, _⟩ => exact (Nat.zero_add _).symm
    | ⟨2, _⟩ => exact (Nat.zero_add _).symm
  · unfold k0_pay6 k0_pay5
    simp only [shapeCast_shapeCast, shapeCast_self]

set_option maxHeartbeats 400000 in
/-- A cloud's first point: the scratch arrays are filled from the cloud block, then the index and table blocks stored. -/
theorem kernelRun_first (c : Dev nD) (i : grid0.Coords) (hi : first i)
    (a2 : Memref sig .tc .vmem S1x256x3 .f32) (h2 : a2.IsWhole) (a3 : Memref sig .tc .vmem S1x4096x3 .f32) (h3 : a3.IsWhole)
    (a4 : Memref sig .tc .vmem S1x256x4 .i32) (h4 : a4.IsWhole) (a5 : Memref sig .tc .vmem S1x256x16 .f32) (h5 : a5.IsWhole)
    (x : Vec F S1x256x3 .f32) (b : Vec F S1x4096x3 .f32) (Q : PUnit → sProp 𝕄) :
    iprop(owns (c : Thread nD τ) a2 fullShare x ∗ owns (c : Thread nD τ) a3 fullShare b
        ∗ (∃ d, owns (c : Thread nD τ) a4 fullShare d) ∗ (∃ d, owns (c : Thread nD τ) a5 fullShare d)
        ∗ (∃ d, owns (c : Thread nD τ) (Memref.whole cc0_scratch0) fullShare d) ∗ (∃ d, owns (c : Thread nD τ) (Memref.whole cc0_scratch1) fullShare d)
        ∗ (iprop(owns (c : Thread nD τ) a2 fullShare x ∗ owns (c : Thread nD τ) a3 fullShare b
            ∗ owns (c : Thread nD τ) a4 fullShare (idxBlk i x (k0_pay3 b) (k0_pay4 b)) ∗ (∃ X, ⌜TblOK x X⌝ ∗ owns (c : Thread nD τ) a5 fullShare X)
            ∗ owns (c : Thread nD τ) (Memref.whole cc0_scratch0) fullShare (k0_pay3 b) ∗ owns (c : Thread nD τ) (Memref.whole cc0_scratch1) fullShare (k0_pay4 b)) -∗ Q ⟨⟩))
      ⊢ wp frame (wpE (defs₀ (F := F)) 𝒱₀ (c : Thread nD τ) none) Set.univ
          (cc0__topk_body i a2 h2 a3 h3 a4 h4 a5 h5 (Memref.whole cc0_scratch0) (Memref.isWhole_whole _) (Memref.whole cc0_scratch1) (Memref.isWhole_whole _)) Q := by
  simp only [cc0__topk_body_eq_skeleton]; unfold cc0__topk_body_skel
  simp only [k0_part1_eq_skeleton, k0_part2_eq_skeleton]; unfold k0_part1_skel k0_part2_skel
  simp only [first] at hi
  unfold owns
  iintro ⟨⟨%f2, %e2, H2⟩, ⟨%f3, %e3, H3⟩, ⟨%d4, %f4, -, H4⟩, ⟨%d5, %f5, -, H5⟩, ⟨%d6, %f6, -, H6⟩, ⟨%d7, %f7, -, H7⟩, Hk⟩
  sl_exec
  sl_step
  have ex : View.readAt (Elt F) a2.view (Rect.unit (s := S1x256x3) ![0, 0, 0] S1x256x3.size inb_S1x256x3_S1x256x3_0_0_0).toLoadRect f2 = x := by
    rw [View.readAt_eq_ld, e2, View.ld_unit_zero (S := S1x256x3) hz3]
  have e8 : kernelRun_first.sl.v8 c a3 f3 = k0_pay3 b := by
    sl_unfold_words
    rw [View.readCov_unit_zero (S := S3x4096) _ hz2, View.readAt_eq_ld, e3, View.ld_unit_zero (S := S1x4096x3) hz3]
  have e19 : kernelRun_first.sl.v19 c a3 f3 = k0_pay4 b := by
    sl_unfold_words
    rw [View.readCov_unit_zero (S := S1x4096) _ hz2, View.readAt_eq_ld, e3, View.ld_unit_zero (S := S1x4096x3) hz3]
  rw [ex, e8, e19]
  dsimp only
  iapply Hk
  isplitl [H2]
  · iexists _; isplitr; swap
    · iexact H2
    ipureintro; exact e2
  isplitl [H3]
  · iexists _; isplitr; swap
    · iexact H3
    ipureintro; exact e3
  isplitl [H4]
  · iexists _; isplitr; swap
    · iexact H4
    ipureintro; unfold idxBlk idxCol; exact read_cols a4.view f4 _ _ _ _
  isplitl [H5]
  · iexists _; isplitr
    · ipureintro; exact read_tbl a5.view f5 x
    iexists _; isplitr; swap
    · iexact H5
    ipureintro; rfl
  isplitl [H6]
  · iexists _; isplitr; swap
    · iexact H6
    ipureintro; sl_unfold_words
    rw [View.readAt_eq_ld, e3, View.ld_unit_zero (S := S1x4096x3) hz3]
    exact read_whole_store (Memref.whole cc0_scratch0).view f6 hz2 _ _
  iexists _; isplitr; swap; · iexact H7
  ipureintro; sl_unfold_words
  rw [View.readAt_eq_ld, e3, View.ld_unit_zero (S := S1x4096x3) hz3]
  exact read_whole_store (Memref.whole cc0_scratch1).view f7 hz2 _ _

set_option maxHeartbeats 400000 in
/-- A later point of a cloud: the index and table blocks are stored from the scratch arrays as they are. -/
theorem kernelRun_rest (c : Dev nD) (i : grid0.Coords) (hi : ¬ first i)
    (a2 : Memref sig .tc .vmem S1x256x3 .f32) (h2 : a2.IsWhole) (a3 : Memref sig .tc .vmem S1x4096x3 .f32) (h3 : a3.IsWhole)
    (a4 : Memref sig .tc .vmem S1x256x4 .i32) (h4 : a4.IsWhole) (a5 : Memref sig .tc .vmem S1x256x16 .f32) (h5 : a5.IsWhole)
    (x : Vec F S1x256x3 .f32) (s0 : FVec F S3x4096 .f32) (s1 : FVec F S1x4096 .f32) (Q : PUnit → sProp 𝕄) :
    iprop(owns (c : Thread nD τ) a2 fullShare x
        ∗ (∃ d, owns (c : Thread nD τ) a4 fullShare d) ∗ (∃ d, owns (c : Thread nD τ) a5 fullShare d)
        ∗ owns (c : Thread nD τ) (Memref.whole cc0_scratch0) fullShare s0 ∗ owns (c : Thread nD τ) (Memref.whole cc0_scratch1) fullShare s1
        ∗ (iprop(owns (c : Thread nD τ) a2 fullShare x
            ∗ owns (c : Thread nD τ) a4 fullShare (idxBlk i x s0 s1) ∗ (∃ X, ⌜TblOK x X⌝ ∗ owns (c : Thread nD τ) a5 fullShare X)
            ∗ owns (c : Thread nD τ) (Memref.whole cc0_scratch0) fullShare s0 ∗ owns (c : Thread nD τ) (Memref.whole cc0_scratch1) fullShare s1) -∗ Q ⟨⟩))
      ⊢ wp frame (wpE (defs₀ (F := F)) 𝒱₀ (c : Thread nD τ) none) Set.univ
          (cc0__topk_body i a2 h2 a3 h3 a4 h4 a5 h5 (Memref.whole cc0_scratch0) (Memref.isWhole_whole _) (Memref.whole cc0_scratch1) (Memref.isWhole_whole _)) Q := by
  simp only [cc0__topk_body_eq_skeleton]; unfold cc0__topk_body_skel
  simp only [k0_part1_eq_skeleton, k0_part2_eq_skeleton]; unfold k0_part1_skel k0_part2_skel
  simp only [first] at hi
  unfold owns
  iintro ⟨⟨%f2, %e2, H2⟩, ⟨%d4, %f4, -, H4⟩, ⟨%d5, %f5, -, H5⟩, ⟨%f6, %e6, H6⟩, ⟨%f7, %e7, H7⟩, Hk⟩
  sl_exec
  sl_step
  have ex : View.readAt (Elt F) a2.view (Rect.unit (s := S1x256x3) ![0, 0, 0] S1x256x3.size inb_S1x256x3_S1x256x3_0_0_0).toLoadRect f2 = x := by
    rw [View.readAt_eq_ld, e2, View.ld_unit_zero (S := S1x256x3) hz3]
  have e8 : View.readAt (Elt F) (Memref.whole cc0_scratch0).view (Rect.unit (s := S3x4096) ![0, 0] S3x4096.size inb_S3x4096_S3x4096_0_0).toLoadRect f6 = s0 := by
    rw [View.readAt_eq_ld, e6, View.ld_unit_zero (S := S3x4096) hz2]
  have e19 : View.readAt (Elt F) (Memref.whole cc0_scratch1).view (Rect.unit (s := S1x4096) ![0, 0] S1x4096.size inb_S1x4096_S1x4096_0_0).toLoadRect f7 = s1 := by
    rw [View.readAt_eq_ld, e7, View.ld_unit_zero (S := S1x4096) hz2]
  rw [ex, e8, e19]
  dsimp only
  iapply Hk
  isplitl [H2]
  · iexists _; isplitr; swap
    · iexact H2
    ipureintro; exact e2
  isplitl [H4]
  · iexists _; isplitr; swap
    · iexact H4
    ipureintro; unfold idxBlk idxCol; exact read_cols a4.view f4 _ _ _ _
  isplitl [H5]
  · iexists _; isplitr
    · ipureintro; exact read_tbl a5.view f5 x
    iexists _; isplitr; swap
    · iexact H5
    ipureintro; rfl
  isplitl [H6]
  · iexists _; isplitr; swap
    · iexact H6
    ipureintro; exact e6
  iexists _; isplitr; swap; · iexact H7
  ipureintro; exact e7

end Cert.Proof.Knn
end
-- ==== Proof.TcRegion.lean ====
/-
  The TensorCore region of `KernelIdeal`: the blocks its windows hold at each grid point, the body obligation over them,
  and the arrays it leaves — the whole array of row numbers, and the table's first three columns.
-/
module

public import proofs.«01_k».proof.Proof.TcRun
public import proofs.«01_k».proof.Proof.Gen.KernelIdeal.Launch
public import Idealize.ShloMosaic.Lib.Pipeline.Regions
public import Idealize.ShloMosaic.Lib.Pipeline.RegionArrays
public import Idealize.ShloMosaic.Lib.Pipeline.ArrRel
public import Idealize.ShloMosaic.Lib.Pipeline.ValueKit.Geometry

@[expose] public section

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## The grid -/

theorem coord0 (t : Fin cfg0.N) : (grid0.coords t 0).val = t.val / 16 := by
  have h := Pipeline.Grid.coords_val (G := grid0) t 0 (S := 16) (B := 4) (by decide) rfl
  have ht : t.val < 64 := lt_of_lt_of_eq t.isLt N_0
  omega
theorem coord1 (t : Fin cfg0.N) : (grid0.coords t 1).val = t.val % 16 := by
  have h := Pipeline.Grid.coords_val (G := grid0) t 1 (S := 1) (B := 16) (by decide) rfl
  omega

/-! ## The blocks -/

/-- The cloud number and the query tile's first row at coordinates `i`. -/
abbrev cloud (i : grid0.Coords) : Fin 4 := ⟨(i 0).val, (i 0).isLt⟩
abbrev qrow (i : grid0.Coords) (r : Fin 256) : Fin 4096 := ⟨256 * (i 1).val + r.val, by have : (i 1).val < 16 := (i 1).isLt; omega⟩

/-- The query block of the input at coordinates `i`, -/
def qblk (X : S4x4096x3.Idx → F .f32) (i : grid0.Coords) : Vec F S1x256x3 .f32 := fun j => X (ix3 (cloud i) (qrow i (j 1)) (j 2))
/-- and the cloud's block. -/
def cblk (X : S4x4096x3.Idx → F .f32) (b : Fin 4) : Vec F S1x4096x3 .f32 := fun j => X (ix3 b (j 1) (j 2))

/-- The block of row numbers the body leaves at coordinates `i`. -/
def outIdx (X : S4x4096x3.Idx → F .f32) (i : grid0.Coords) : IVec S1x256x4 32 :=
  idxBlk i (qblk X i) (k0_pay3 (cblk X (cloud i))) (k0_pay4 (cblk X (cloud i)))

/-! ## The proof data -/

variable (X : Dev nD → S4x4096x3.Idx → F .f32) (V2 : Dev nD → S4x4096x4.Idx → BitVec 32) (V3 : Dev nD → S4x4096x16.Idx → F .f32)

/-- What the region's windows are on: the input twice, the array of row numbers, the table. -/
def arrs (c : Dev nD) : (w : Fin cfg0.W) → Buf (Elt F) ((cfg0.win w).arr.view.loc (c.tc : Thread nD τ))
  | 0 => X c | 1 => X c | 2 => V2 c | 3 => V3 c | ⟨_ + 4, h⟩ => absurd h (Nat.not_lt.2 (Nat.le_add_left _ _))

/-- What the body leaves in each window's staging buffer at point `t`. -/
def afterR (c : Dev nD) : (w : Fin cfg0.W) → Fin cfg0.N → ((cfg0.win w).block.Idx → Elt F (cfg0.win w).elt) → ((cfg0.win w).block.Idx → Elt F (cfg0.win w).elt) → Prop
  | 0 => fun _ _ _ => True | 1 => fun _ _ _ => True
  | 2 => fun t _ Z => Z = outIdx (X c) (grid0.coords t)
  | 3 => fun t _ Z => TblOK (qblk (X c) (grid0.coords t)) Z
  | ⟨_ + 4, h⟩ => absurd h (Nat.not_lt.2 (Nat.le_add_left _ _))

/-- Between points: the scratch arrays, which past a cloud's first point hold that cloud's fill. -/
def scr (c : Dev nD) (n : ℕ) : sProp 𝕄 :=
  iprop(∃ f0 f1, ⌜∀ b : Fin 4, b.val = n / 16 → n % 16 ≠ 0 → f0 = k0_pay3 (cblk (X c) b) ∧ f1 = k0_pay4 (cblk (X c) b)⌝
    ∗ owns (c : Thread nD τ) (Memref.whole cc0_scratch0) fullShare f0 ∗ owns (c : Thread nD τ) (Memref.whole cc0_scratch1) fullShare f1)

/-- The pairs the core may have recorded before the region: all at or below level `b`. -/
def recd (b : ℕ) (d : Dev nD) : Set (SemLoc sig × HIx 1) := {p | (K (F := F)).lev (T d, p.1) p.2 ≤ b}

/-- The input's share, dealt over the two windows on it. -/
def qs : Fin cfg0.W → PosShare TreeShare
  | 0 => fullShare.left | 1 => fullShare.right | _ => fullShare

/-- The region's proof data: nothing is signalled in it, so what the core owes is the start of the call at every point. -/
def rdat (b : ℕ) (c : Dev nD) : RDat τ (Elt F) (HIx 1) ℕ UU ℕ cfg0 c where
  A := arrs X V2 V3 c
  after := afterR X c
  Φ n := scr X c n.val
  q := qs
  owed _ := (K (F := F)).Otc c 0
  recorded _ := recd (F := F) b c

variable (b : ℕ)

/-- A block the pipeline fetched is the array's block, at every entry. -/
theorem fetched0 (c : Dev nD) (t : Fin cfg0.N) (d : (cfg0.win 0).block.Idx → Elt F (cfg0.win 0).elt) :
    (rdat X V2 V3 b c).fetched 0 t d = (rdat X V2 V3 b c).blockOf 0 t := by
  funext j
  have hm : (cfg0.win 0).moved (grid0.coords t) j = true :=
    ((cfg0.win 0).moved_iff _ j).mpr fun a => (j a).isLt
  unfold RDat.fetched Pipeline.Window.fill; rw [dif_pos hm]
theorem fetched1 (c : Dev nD) (t : Fin cfg0.N) (d : (cfg0.win 1).block.Idx → Elt F (cfg0.win 1).elt) :
    (rdat X V2 V3 b c).fetched 1 t d = (rdat X V2 V3 b c).blockOf 1 t := by
  funext j
  have hm : (cfg0.win 1).moved (grid0.coords t) j = true :=
    ((cfg0.win 1).moved_iff _ j).mpr fun a => (j a).isLt
  unfold RDat.fetched Pipeline.Window.fill; rw [dif_pos hm]

theorem index0 (t : Fin cfg0.N) : win0_0.index t = ![t.val / 16, t.val % 16, 0] := by
  show ![_, _, _] = _
  have h0 := coord0 t; have h1 := coord1 t
  have ht : t.val < 64 := lt_of_lt_of_eq t.isLt N_0
  simp only [BitVec.toNat_ofNat, h0, h1]
  rw [Nat.mod_eq_of_lt (a := t.val / 16) (by omega), Nat.mod_eq_of_lt (a := t.val % 16) (by omega)]
theorem index1 (t : Fin cfg0.N) : win0_1.index t = ![t.val / 16, 0, 0] := by
  show ![_, _, _] = _
  have h0 := coord0 t; have h1 := coord1 t
  have ht : t.val < 64 := lt_of_lt_of_eq t.isLt N_0
  simp only [BitVec.toNat_ofNat, h0, h1]
  congr 1 <;> omega
theorem index2 (t : Fin cfg0.N) : win0_2.index t = ![t.val / 16, t.val % 16, 0] := index0 t
theorem index3 (t : Fin cfg0.N) : win0_3.index t = ![t.val / 16, t.val % 16, 0] := index0 t

theorem finds0 (c : Dev nD) (t : Fin cfg0.N) (Y : S1x256x3.Idx → F .f32) (h : (rdat X V2 V3 b c).Finds 0 t Y) :
    Y = qblk (X c) (grid0.coords t) := by
  obtain ⟨d, rfl⟩ := ((rdat X V2 V3 b c).finds_of_fetch (fetch0_0 t) _).mp h
  rw [fetched0]
  funext j
  have e := index0 t; have h0 := coord0 t; have h1 := coord1 t
  have j0 : (j 0).val < 1 := (j 0).isLt
  show X c (((cfg0.win 0).blk t).view.emb j) = X c (ix3 _ _ _)
  congr 1
  funext a
  refine Fin.ext ?_
  refine (Pipeline.Window.rect_emb_val win0_0 t j a).trans ?_
  rw [e]
  fin_cases a
  · show t.val / 16 * 1 + (j 0).val = (grid0.coords t 0).val; omega
  · show t.val % 16 * 256 + (j 1).val = 256 * (grid0.coords t 1).val + (j 1).val; omega
  · show 0 * 3 + (j 2).val = (j 2).val; omega

theorem finds1 (c : Dev nD) (t : Fin cfg0.N) (ht : t.val % 16 = 0) (Y : S1x4096x3.Idx → F .f32) (h : (rdat X V2 V3 b c).Finds 1 t Y) :
    Y = cblk (X c) (cloud (grid0.coords t)) := by
  obtain ⟨d, rfl⟩ := ((rdat X V2 V3 b c).finds_of_fetch ((fetch0_1 t).mpr ht) _).mp h
  rw [fetched1]
  funext j
  have e := index1 t; have h0 := coord0 t
  have j0 : (j 0).val < 1 := (j 0).isLt
  show X c (((cfg0.win 1).blk t).view.emb j) = X c (ix3 _ _ _)
  congr 1
  funext a
  refine Fin.ext ?_
  refine (Pipeline.Window.rect_emb_val win0_1 t j a).trans ?_
  rw [e]
  fin_cases a
  · show t.val / 16 * 1 + (j 0).val = (grid0.coords t 0).val; omega
  · show 0 * 4096 + (j 1).val = (j 1).val; omega
  · show 0 * 3 + (j 2).val = (j 2).val; omega

/-- The body obligation: at a cloud's first point the body fills the scratch, at the others it reads what the first left. -/
theorem hbody (c : Dev nD) : (rdat X V2 V3 b c).BodyObligation defs₀ 𝒱₀ none Set.univ := by
  intro t Y hY
  rw [bigSep_W0, bigSep_W0]
  have e0 := finds0 X V2 V3 b c t (Y 0) (hY 0)
  have ht : t.val < 64 := lt_of_lt_of_eq t.isLt N_0
  have h0 := coord0 t; have h1 := coord1 t
  have hΦ : ∀ n : Fin (cfg0.N + 1), (rdat X V2 V3 b c).Φ n = scr X c n.val := fun _ => rfl
  have hO : (rdat X V2 V3 b c).owesAt none t.castSucc = (rdat X V2 V3 b c).owesAt none t.succ := rfl
  rw [hΦ, hΦ, hO]
  have hB : (defs₀ (F := F)) .tc cfg0.body (cfg0.bodyArgs t (cfg0.slots t)) = bodyAt0 t := rfl
  rw [hB]
  rw [e0]
  unfold scr
  by_cases hz : t.val % 16 = 0
  · have e1 := finds1 X V2 V3 b c t hz (Y 1) (hY 1)
    rw [e1]
    iintro ⟨⟨%f0, %f1, -, H0, H1⟩, HO, W0, W1, W2, W3⟩
    iapply (kernelRun_first c (grid0.coords t) (first_of_zero _ (h1.trans hz)) _ _ _ _ _ _ _ _ (qblk (X c) (grid0.coords t)) (cblk (X c) (cloud (grid0.coords t))) _)
    isplitl [W0]; · iexact W0
    isplitl [W1]; · iexact W1
    isplitl [W2]; · iexists _; iexact W2
    isplitl [W3]; · iexists _; iexact W3
    isplitl [H0]; · iexists _; iexact H0
    isplitl [H1]; · iexists _; iexact H1
    iintro ⟨W0, W1, W2, ⟨%Z, %hZ, W3⟩, H0, H1⟩
    isplitl [H0 H1]
    · iexists _; iexists _
      isplitr
      · ipureintro
        intro b' hb' _
        have : b' = cloud (grid0.coords t) := by
          refine Fin.ext ?_
          have : t.succ.val = t.val + 1 := rfl
          show b'.val = (grid0.coords t 0).val; omega
        subst this
        exact ⟨rfl, rfl⟩
      isplitl [H0]; · iexact H0
      iexact H1
    isplitl [HO]; · iexact HO
    isplitl [W0]
    · iexists (qblk (X c) (grid0.coords t))
      isplitr; · ipureintro; exact trivial
      iexact W0
    isplitl [W1]
    · iexists (cblk (X c) (cloud (grid0.coords t)))
      isplitr; · ipureintro; exact trivial
      iexact W1
    isplitl [W2]
    · iexists (outIdx (X c) (grid0.coords t))
      isplitr; · ipureintro; exact rfl
      iexact W2
    iexists Z
    isplitr; · ipureintro; exact hZ
    iexact W3
  · iintro ⟨⟨%f0, %f1, %hf, H0, H1⟩, HO, W0, W1, W2, W3⟩
    obtain ⟨rfl, rfl⟩ := hf (cloud (grid0.coords t)) (h0) hz
    iapply (kernelRun_rest c (grid0.coords t) (not_first_of_ne _ (by rw [h1]; exact hz)) _ _ _ _ _ _ _ _ (qblk (X c) (grid0.coords t)) _ _ _)
    isplitl [W0]; · iexact W0
    isplitl [W2]; · iexists _; iexact W2
    isplitl [W3]; · iexists _; iexact W3
    isplitl [H0]; · iexact H0
    isplitl [H1]; · iexact H1
    iintro ⟨W0, W2, ⟨%Z, %hZ, W3⟩, H0, H1⟩
    isplitl [H0 H1]
    · iexists _; iexists _
      isplitr
      · ipureintro
        intro b' hb' hm
        have : b' = cloud (grid0.coords t) := by
          refine Fin.ext ?_
          have : t.succ.val = t.val + 1 := rfl
          show b'.val = (grid0.coords t 0).val; omega
        subst this
        exact ⟨rfl, rfl⟩
      isplitl [H0]; · iexact H0
      iexact H1
    isplitl [HO]; · iexact HO
    isplitl [W0]
    · iexists (qblk (X c) (grid0.coords t))
      isplitr; · ipureintro; exact trivial
      iexact W0
    isplitl [W1]
    · iexists (Y 1)
      isplitr; · ipureintro; exact trivial
      iexact W1
    isplitl [W2]
    · iexists (outIdx (X c) (grid0.coords t))
      isplitr; · ipureintro; exact rfl
      iexact W2
    iexists Z
    isplitr; · ipureintro; exact hZ
    iexact W3

end Cert.Proof.Knn
end
-- ==== Proof.TcArrays.lean ====
/-
  What the TensorCore region leaves in its two output arrays: every row number, and the table's first three columns. Then the
  region as a segment of @main.
-/
module

public import proofs.«01_k».proof.Proof.TcRegion
public import Idealize.ShloMosaic.Lib.Pipeline.Regions
public import Idealize.ShloMosaic.Lib.Pipeline.RegionArrays
public import Idealize.ShloMosaic.Lib.Pipeline.ArrRel
public import Idealize.ShloMosaic.Lib.Pipeline.ValueKit.Geometry

@[expose] public section

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

variable (X : Dev nD → S4x4096x3.Idx → F .f32) (V2 : Dev nD → S4x4096x4.Idx → BitVec 32) (V3 : Dev nD → S4x4096x16.Idx → F .f32) (b : ℕ)

/-- The grid point whose block holds entry `i` of the array of row numbers. -/
def pt (p : Fin 4) (n : Fin 4096) : Fin cfg0.N := ⟨p.val * 16 + n.val / 256, lt_of_lt_of_eq (by omega) N_0.symm⟩

/-- The array of row numbers: at cloud `p`, query `n`, place `k`. -/
def gIdx (x : S4x4096x3.Idx → F .f32) : S4x4096x4.Idx → BitVec 32 := fun i =>
  outIdx x (grid0.coords (pt (i 0) (i 1))) (ix3 0 ⟨(i 1).val % 256, Nat.mod_lt _ (by decide)⟩ (i 2))

theorem final2 (c : Dev nD) (G : S4x4096x4.Idx → BitVec 32) (h : (rdat X V2 V3 b c).ArrAt 2 cfg0.N G) : G = gIdx (X c) := by
  obtain ⟨Y, hY, hA⟩ := h.exists_exact
  rw [hA (Function.update (fun _ _ _ => Classical.arbitrary _) 2 Y) fun u _ _ => by rw [Function.update_self]]
  refine Pipeline.Dat.arrAt_eq_of_covers _ 2 _ (by decide +kernel) fun t hf y => ?_
  rw [RDat.withAfter_after, Function.update_self]
  obtain ⟨_, -, e⟩ := hY t t.isLt hf
  have e : Y t = outIdx (X c) (grid0.coords t) := e
  rw [e]
  have ei := index2 t
  have e1 : ((((cfg0.win 2).blk t).view.emb y) 0 : Fin 4).val = t.val / 16 * 1 + (y 0).val :=
    (Pipeline.Window.rect_emb_val win0_2 t y 0).trans (by rw [ei]; rfl)
  have e2 : ((((cfg0.win 2).blk t).view.emb y) 1 : Fin 4096).val = t.val % 16 * 256 + (y 1).val :=
    (Pipeline.Window.rect_emb_val win0_2 t y 1).trans (by rw [ei]; rfl)
  have e3 : ((((cfg0.win 2).blk t).view.emb y) 2 : Fin 4).val = 0 * 4 + (y 2).val :=
    (Pipeline.Window.rect_emb_val win0_2 t y 2).trans (by rw [ei]; rfl)
  have y0 : (y 0).val < 1 := (y 0).isLt
  have y1 : (y 1).val < 256 := (y 1).isLt
  have ep : pt ((((cfg0.win 2).blk t).view.emb y) 0) ((((cfg0.win 2).blk t).view.emb y) 1) = t :=
    Fin.ext (by show _ * 16 + _ / 256 = t.val; omega)
  show outIdx (X c) (grid0.coords t) _ = outIdx (X c) (grid0.coords (pt _ _)) (ix3 0 _ _)
  rw [ep]
  congr 1
  funext a
  refine Fin.ext ?_
  fin_cases a
  · show (y 0).val = 0; omega
  · show (y 1).val = ((((cfg0.win 2).blk t).view.emb y) 1 : Fin 4096).val % 256; omega
  · show (y 2).val = ((((cfg0.win 2).blk t).view.emb y) 2 : Fin 4).val; omega

/-- The table's first three columns are the input's. -/
def TabFill (x : S4x4096x3.Idx → F .f32) (G : S4x4096x16.Idx → F .f32) : Prop :=
  ∀ i : S4x4096x16.Idx, ∀ h : (i 2).val < 3, G i = x (ix3 (i 0) (i 1) ⟨(i 2).val, h⟩)

theorem final3 (c : Dev nD) (G : S4x4096x16.Idx → F .f32) (h : (rdat X V2 V3 b c).ArrAt 3 cfg0.N G) : TabFill (X c) G := by
  obtain ⟨Y, hY, hA⟩ := h.exists_exact
  rw [hA (Function.update (fun _ _ _ => Classical.arbitrary _) 3 Y) fun u _ _ => by rw [Function.update_self]]
  intro i
  refine Pipeline.Dat.arrAt_forall_of_covers ((rdat X V2 V3 b c).withAfter _) 3 (fun (i : S4x4096x16.Idx) v => ∀ h : (i 2).val < 3, v = X c (ix3 (i 0) (i 1) ⟨(i 2).val, h⟩)) (by decide +kernel) (fun t hf y => ?_) i
  rw [RDat.withAfter_after, Function.update_self]
  obtain ⟨_, -, e⟩ := hY t t.isLt hf
  have e : TblOK (qblk (X c) (grid0.coords t)) (Y t) := e
  intro h
  have ei := index3 t
  have e1 : ((((cfg0.win 3).blk t).view.emb y) 0 : Fin 4).val = t.val / 16 * 1 + (y 0).val :=
    (Pipeline.Window.rect_emb_val win0_3 t y 0).trans (by rw [ei]; rfl)
  have e2 : ((((cfg0.win 3).blk t).view.emb y) 1 : Fin 4096).val = t.val % 16 * 256 + (y 1).val :=
    (Pipeline.Window.rect_emb_val win0_3 t y 1).trans (by rw [ei]; rfl)
  have e3 : ((((cfg0.win 3).blk t).view.emb y) 2 : Fin 16).val = 0 * 16 + (y 2).val :=
    (Pipeline.Window.rect_emb_val win0_3 t y 2).trans (by rw [ei]; rfl)
  have y0 : (y 0).val < 1 := (y 0).isLt
  have y1 : (y 1).val < 256 := (y 1).isLt
  have h0 := coord0 t; have h1 := coord1 t
  refine (e y (by show (y 2).val < 3; omega)).trans ?_
  show X c (ix3 _ _ _) = X c (ix3 _ _ _)
  congr 1
  funext a
  refine Fin.ext ?_
  fin_cases a
  · show (grid0.coords t 0).val = ((((cfg0.win 3).blk t).view.emb y) 0 : Fin 4).val; omega
  · show 256 * (grid0.coords t 1).val + (y 1).val = ((((cfg0.win 3).blk t).view.emb y) 1 : Fin 4096).val; omega
  · show (y 2).val = ((((cfg0.win 3).blk t).view.emb y) 2 : Fin 16).val; omega

/-! ## The region -/

abbrev adms : (p : Fin 1) → (pcfgs (F := F) p).Adm := fun q => (cfgs q).toPCfg_adm

/-- What the core owes, its recorded pairs at or below level `b`. -/
def owing (c : Dev nD) : sProp 𝕄 := iprop(∃ W, ⌜(K (F := F)).WBelow (T c) W b⌝ ∗ owes (T c) ((K (F := F)).Otc c 0) W)

abbrev aLoc (d : Dev nD) : Loc nD τ sig := (SparseCore.T d).loc main_arg0
abbrev nLoc (d : Dev nD) : Loc nD τ sig := (SparseCore.T d).loc main_v0_0
abbrev bLoc (d : Dev nD) : Loc nD τ sig := (SparseCore.T d).loc main_v0_1

/-- The region is entered from the input, the two output arrays and what the core owes, -/
def preR (c : Dev nD) : sProp 𝕄 :=
  iprop((aLoc c ↦{fullShare} X c) ∗ (nLoc c ↦{fullShare} V2 c) ∗ (bLoc c ↦{fullShare} V3 c) ∗ owing b c)
/-- and leaves the input, the row numbers, a table whose first three columns are the input's, and the same debts. -/
def postR (c : Dev nD) : sProp 𝕄 :=
  iprop((aLoc c ↦{fullShare} X c) ∗ (nLoc c ↦{fullShare} gIdx (X c)) ∗ (∃ G, ⌜TabFill (X c) G⌝ ∗ (bLoc c ↦{fullShare} G)) ∗ owing (F := F) b c)

theorem otc_none (d : Dev nD) (g : GSem nD τ sig) : (K (F := F)).Otc (N := 1) d 0 g none = 0 := by
  by_contra h
  have := (K (F := F)).lev_of_Otc_pos (N := 1) (Nat.pos_of_ne_zero h)
  rw [SparseCore.Cfg.lev_none] at this
  omega

/-- The windows' arrays before the region, the input dealt over its two windows. -/
theorem arrays_entry (c : Dev nD) :
    iprop((aLoc c ↦{fullShare} X c) ∗ (nLoc c ↦{fullShare} V2 c) ∗ (bLoc c ↦{fullShare} V3 c))
      ⊢ ((rdat X V2 V3 b c).arrays (rdat X V2 V3 b c).A : sProp 𝕄) := by
  have e : ((rdat X V2 V3 b c).arrays (rdat X V2 V3 b c).A : sProp 𝕄)
      = bigSep Finset.univ fun w : Fin 4 => ((c.tc : Thread nD τ).loc (Pipeline.arrRef spec0 w)) ↦{(rdat X V2 V3 b c).share w} arrs X V2 V3 c w :=
    bigSep_congr fun w _ => by rw [(arr_whole0 w).set_eq_univ]; rfl
  rw [e, bigSep_W0]
  iintro ⟨Ha, Hn, Hb⟩
  ihave Ha' := (pointsTo_share (PosShare.mem_left_op_right fullShare)).1 $$ Ha
  icases Ha' with ⟨Hl, Hr⟩
  isplitl [Hl]; · iexact Hl
  isplitl [Hr]; · iexact Hr
  isplitl [Hn]; · iexact Hn
  iexact Hb

/-- And after it. -/
theorem arrays_exit (c : Dev nD) :
    ((rdat X V2 V3 b c).arraysAt cfg0.N : sProp 𝕄)
      ⊢ iprop((aLoc c ↦{fullShare} X c) ∗ (nLoc c ↦{fullShare} gIdx (X c)) ∗ (∃ G, ⌜TabFill (X c) G⌝ ∗ (bLoc c ↦{fullShare} G))) := by
  have e : ((rdat X V2 V3 b c).arraysAt cfg0.N : sProp 𝕄)
      = bigSep Finset.univ fun w : Fin 4 => iprop(∃ G, ⌜(rdat X V2 V3 b c).ArrAt w cfg0.N G⌝
          ∗ ((c.tc : Thread nD τ).loc (Pipeline.arrRef spec0 w)) ↦{(rdat X V2 V3 b c).share w} G) :=
    bigSep_congr fun w _ => by rw [(arr_whole0 w).set_eq_univ]
  rw [e, bigSep_W0]
  iintro ⟨⟨%F0, %h0, H0⟩, ⟨%F1, %h1, H1⟩, ⟨%F2, %h2, H2⟩, ⟨%F3, %h3, H3⟩⟩
  have e0 : F0 = X c := (congrFun ((rdat X V2 V3 b c).ArrAt_in 0 rfl _) F0).mp h0
  have e1 : F1 = X c := (congrFun ((rdat X V2 V3 b c).ArrAt_in 1 rfl _) F1).mp h1
  have e2 : F2 = gIdx (X c) := final2 X V2 V3 b c F2 h2
  have e3 : TabFill (X c) F3 := final3 X V2 V3 b c F3 h3
  clear h0 h1 h2 h3
  subst e0 e1 e2
  isplitl [H0 H1]
  · iapply (pointsTo_share (PosShare.mem_left_op_right fullShare)).2
    isplitl [H0]; · iexact H0
    iexact H1
  isplitl [H2]; · iexact H2
  iexists F3
  isplitr; · ipureintro; exact e3
  iexact H3

def region : RDat.RegionSeg (pcfgs (F := F)) adms (fun _ c => rdat X V2 V3 b c) (none : HIx 1) defs₀ 𝒱₀ ((K (F := F)).L) ((K (F := F)).lev) 0 where
  win := winFacts₀0
  block_pos := block_pos0
  stage_whole := stage_whole0
  K := PEmpty
  osem k := k.elim
  ho := Pipeline.OwnSemFacts.none _
  hbody := hbody X V2 V3 b
  hwaits c := RDat.cellsWaits_intro (Pipeline.pin (pcfgs (F := F)) adms) (fun _ c => rdat X V2 V3 b c) none 0 c fun w s t =>
    (K (F := F)).mayWait_none _ (otc_none c)
  pre := preR X V2 V3 b
  post := postR X b
  X _ := BI.emp
  Y _ := BI.emp
  Z _ := BI.emp
  hentry c := by
    rw [Pipeline.ownSems0_none, Pipeline.prefHeld_of_none _ rfl]
    unfold preR owing
    iintro ⟨⟨Ha, Hn, Hb, %W, %hW, HO⟩, -, -⟩
    imodintro
    isplitl [Ha Hn Hb]
    · iapply (arrays_entry X V2 V3 b c)
      isplitl [Ha]; · iexact Ha
      isplitl [Hn]; · iexact Hn
      iexact Hb
    isplitr; · iempintro
    isplitl [HO]
    · unfold RDat.owesAt Pipeline.owesWithin
      iexists W
      isplitr; · ipureintro; exact fun p hp => Or.inl (hW p hp)
      iexact HO
    isplitr; · iempintro
    iempintro
  hin c := by
    rw [Pipeline.prefHeld_of_none _ rfl]
    refine BIBase.Entails.trans (Entails.of_eq (congrArg (fun R => iprop(BI.emp ∗ BI.emp ∗ R)) (scopedRest0_eq c))) ?_
    show _ ⊢ scr X c 0
    unfold scr
    iintro ⟨-, -, ⟨%f0, H0⟩, ⟨%f1, H1⟩⟩
    iexists f0; iexists f1
    isplitr; · ipureintro; exact fun _ _ h => absurd rfl h
    rw [owns_whole, owns_whole]
    isplitl [H0]; · iexact H0
    iexact H1
  hout c := by
    rw [Pipeline.ownSems0_none]
    refine BIBase.Entails.trans ?_ (Entails.of_eq (congrArg (fun R => iprop(BI.emp ∗ BI.emp ∗ R)) (scopedRest0_eq c).symm))
    show scr X c _ ⊢ _
    unfold scr
    simp only [owns_whole]
    iintro ⟨%f0, %f1, -, H0, H1⟩
    isplitr; · iempintro
    isplitr; · iempintro
    isplitl [H0]; · iexists f0; iexact H0
    iexists f1; iexact H1
  hexit c := by
    unfold postR owing RDat.owesAt Pipeline.owesWithin
    iintro ⟨Ha, ⟨%W, %hW, HO⟩, -, -⟩
    ihave H := (arrays_exit X V2 V3 b c) $$ Ha
    icases H with ⟨Ha, Hn, Hb⟩
    imodintro
    isplitl [Ha]; · iexact Ha
    isplitl [Hn]; · iexact Hn
    isplitl [Hb]; · iexact Hb
    iexists W
    isplitr
    · ipureintro
      intro p hp
      rcases hW hp with h | ⟨w, s, rfl⟩
      · exact h
      · exact Nat.zero_le _
    iexact HO

end Cert.Proof.Knn
end
-- ==== Proof.Rounds.lean ====
/-
  The four rounds of the TensorCore kernel as one step repeated: take each query's least column that holds the row's greatest
  score, then put −∞ there. Every row number the kernel writes lies inside the table.
-/
module

public import proofs.«01_k».proof.Proof.TcArrays
public import Idealize.ShloMosaic.PureOps.Reduce
public import Idealize.ShloMosaic.Lib.Pipeline.Value
public import Idealize.ShloMosaic.Lib.ValueLayout

@[expose] public section

noncomputable section

namespace Cert.Proof.Knn

open Cert.KernelIdeal Cert.KernelIdeal.Gen

open Idealize.ShloMosaic
open Idealize.ShloMosaic.ValueIdx (ix1 ix2 ix3 ix4 eq_ix1 eq_ix2 eq_ix3 eq_ix4)

variable {F : FTy → Type} [FloatOps F]

/-- Each row's greatest score. -/
def top (s : FVec F S256x4096 .f32) : FVec F S256 .f32 :=
  multiReduction .maximumf [1] S256 s 0xFF800000#32 reduces_S256x4096_S256 (.inl rfl) rfl

/-- The column number where a score equals its row's greatest one, the last column's elsewhere. -/
def hits (s : FVec F S256x4096 .f32) : IVec S256x4096 32 :=
  select (cmpf .oeq s (broadcastTo S256x4096 (shapeCast S256x1 (top s) shapeCasts_S256_S256x1) broadcasts_S256x1_S256x4096)) colNo
    (broadcast S256x4096 4095#32)

/-- Each row's pick: the least of those numbers. -/
def pick (s : FVec F S256x4096 .f32) : IVec S256 32 :=
  multiReductionI .minsi [1] S256 (hits s) 2147483647#32 reduces_S256x4096_S256 rfl

/-- The scores with −∞ at each row's pick. -/
def hide (s : FVec F S256x4096 .f32) (p : IVec S256 32) : FVec F S256x4096 .f32 :=
  select (cmpi .eq colNo (broadcastTo S256x4096 (shapeCast S256x1 p shapeCasts_S256_S256x1) broadcasts_S256x1_S256x4096))
    (broadcast S256x4096 (Scalar.ofBits .f32 0xFF800000#32)) s

/-- The scores after `k` rounds. -/
def scores (s : FVec F S256x4096 .f32) : ℕ → FVec F S256x4096 .f32
  | 0 => s
  | k + 1 => hide (scores s k) (pick (scores s k))

theorem cast_row (p : IVec S256 32) (r : Fin 256) : shapeCast S1x256x1 p shapeCasts_S256_S1x256x1 (ix3 (0 : Fin 1) r (0 : Fin 1)) = p (ix1 r) := by
  refine congrArg p (Shape.reshapeEquiv_eq_of_rowMajor _ ?_)
  simp [Shape.rowMajor_val_one, Shape.rowMajor_val_three]

/-- A block's entry: the round's pick, plus the cloud's first row. -/
theorem idxBlk_apply (i : grid0.Coords) (x : Vec F S1x256x3 .f32) (s0 : FVec F S3x4096 .f32) (s1 : FVec F S1x4096 .f32) (r : Fin 256) (k : Fin 4) :
    idxBlk i x s0 s1 (ix3 (0 : Fin 1) r k) = IntOp.addi (pick (scores (k0_pay7 x s0 s1) k.val) (ix1 r)) (baseNo i) := by
  show idxCol i x s0 s1 k (ix3 (0 : Fin 1) r (0 : Fin 1)) = _
  fin_cases k
  · exact (cast_row (addi (pick (scores (k0_pay7 x s0 s1) 0)) (broadcast S256 (baseNo i))) r)
  · exact (cast_row (addi (pick (scores (k0_pay7 x s0 s1) 1)) (broadcast S256 (baseNo i))) r)
  · exact (cast_row (addi (pick (scores (k0_pay7 x s0 s1) 2)) (broadcast S256 (baseNo i))) r)
  · exact (cast_row (addi (pick (scores (k0_pay7 x s0 s1) 3)) (broadcast S256 (baseNo i))) r)

/-- The indices that reduce to row `r`. -/
theorem drop_iff (r : Fin 256) (i : S256x4096.Idx) : reduces_S256x4096_S256.drop i = ix1 r ↔ (i 0).val = r.val := by
  constructor
  · intro h
    have h0 := congrFun h 0
    exact congrArg Fin.val h0
  · intro h
    rw [eq_ix1 (reduces_S256x4096_S256.drop i)]
    exact congrArg ix1 (Fin.ext h)

/-- A row's pick is the least of its hits. -/
theorem pick_eq (s : FVec F S256x4096 .f32) (r : Fin 256) :
    pick s (ix1 r) = (Finset.univ.filter fun i : S256x4096.Idx => (i 0).val = r.val).fold IntOp.minsi 2147483647#32 (hits s) := by
  unfold pick
  refine (multiReductionI_eq_fold .minsi (hits s) 2147483647#32 reduces_S256x4096_S256 rfl (ix1 r)).trans ?_
  exact congrArg (fun S => S.fold IntOp.minsi 2147483647#32 (hits s)) (Finset.filter_congr fun i _ => drop_iff r i)

theorem colNo_apply (r : Fin 256) (c : Fin 4096) : colNo (ix2 r c) = BitVec.ofNat 32 c.val := iota_single_apply .tc S256x4096 32 1 iota_S256x4096_d1_w32 (ix2 r c)

/-- A row vector spread over the columns reads its row. -/
theorem spread_apply {α : Type} (v : S256.Idx → α) (r : Fin 256) (c : Fin 4096) :
    broadcastTo S256x4096 (shapeCast S256x1 v shapeCasts_S256_S256x1) broadcasts_S256x1_S256x4096 (ix2 r c) = v (ix1 r) := by
  rw [broadcastTo_apply _ _ (ix2 r c) (ix2 r (0 : Fin 1)) ?_]
  · refine congrArg v (Shape.reshapeEquiv_eq_of_rowMajor _ ?_)
    simp [Shape.rowMajor_val_one, Shape.rowMajor_val_two]
  · intro a
    fin_cases a <;> rfl

theorem hits_apply (s : FVec F S256x4096 .f32) (r : Fin 256) (c : Fin 4096) :
    hits s (ix2 r c) = if FloatOps.cmpf .oeq (s (ix2 r c)) (top s (ix1 r)) = 1#1 then BitVec.ofNat 32 c.val else 4095#32 := by
  show (if FloatOps.cmpf .oeq (s (ix2 r c)) (broadcastTo S256x4096 (shapeCast S256x1 (top s) shapeCasts_S256_S256x1) broadcasts_S256x1_S256x4096 (ix2 r c)) = 1#1
    then colNo (ix2 r c) else 4095#32) = _
  rw [spread_apply, colNo_apply]

theorem hide_apply (s : FVec F S256x4096 .f32) (p : IVec S256 32) (r : Fin 256) (c : Fin 4096) :
    hide s p (ix2 r c) = if IntOp.cmpi .eq (BitVec.ofNat 32 c.val) (p (ix1 r)) = 1#1 then Scalar.ofBits .f32 0xFF800000#32 else s (ix2 r c) := by
  show (if IntOp.cmpi .eq (colNo (ix2 r c)) (broadcastTo S256x4096 (shapeCast S256x1 p shapeCasts_S256_S256x1) broadcasts_S256x1_S256x4096 (ix2 r c)) = 1#1
    then Scalar.ofBits .f32 0xFF800000#32 else s (ix2 r c)) = _
  rw [spread_apply, colNo_apply]

/-- The signed value of a row's pick is the least of its hits' signed values. -/
theorem pick_toInt (s : FVec F S256x4096 .f32) (r : Fin 256) :
    (pick s (ix1 r)).toInt
      = (Finset.univ.filter fun i : S256x4096.Idx => (i 0).val = r.val).fold min 2147483647 (fun i => (hits s i).toInt) := by
  rw [pick_eq]
  refine ((Finset.fold_hom (m := BitVec.toInt) fun x y => ?_).symm.trans rfl)
  unfold IntOp.minsi
  rw [BitVec.slt_eq_decide]
  by_cases h : x.toInt < y.toInt
  · simp [h, min_eq_left h.le]
  · simp [h, min_eq_right (not_lt.mp h)]

theorem toInt_small (n : ℕ) (h : n < 4096) : (BitVec.ofNat 32 n).toInt = n := by
  rw [BitVec.toInt_eq_toNat_cond, BitVec.toNat_ofNat, Nat.mod_eq_of_lt (by omega)]
  omega

/-- The hits lie among the column numbers. -/
theorem hits_range (s : FVec F S256x4096 .f32) (i : S256x4096.Idx) : 0 ≤ (hits s i).toInt ∧ (hits s i).toInt ≤ 4095 := by
  obtain ⟨r, c, rfl⟩ : ∃ r c, i = ix2 r c := ⟨i 0, i 1, eq_ix2 i⟩
  rw [hits_apply]
  have hc : c.val < 4096 := c.isLt
  split
  · rw [toInt_small _ hc]; omega
  · decide

/-- Every pick is a column number. -/
theorem pick_lt (s : FVec F S256x4096 .f32) (r : Fin 256) : (pick s (ix1 r)).toNat < 4096 := by
  have h1 : 0 ≤ (pick s (ix1 r)).toInt := by
    rw [pick_toInt, Finset.le_fold_min]
    exact ⟨by decide, fun i _ => (hits_range s i).1⟩
  have h2 : (pick s (ix1 r)).toInt ≤ 4095 := by
    rw [pick_toInt, Finset.fold_min_le]
    exact Or.inr ⟨ix2 r 0, Finset.mem_filter.mpr ⟨Finset.mem_univ _, rfl⟩, (hits_range s _).2⟩
  rw [BitVec.toInt_eq_toNat_cond] at h1 h2
  have := (pick s (ix1 r)).isLt
  split at h1 <;> omega

/-- Where some column holds the greatest score, and `c` is the first that does, the pick is `c`. -/
theorem pick_first (s : FVec F S256x4096 .f32) (r : Fin 256) (c : Fin 4096)
    (hc : FloatOps.cmpf .oeq (s (ix2 r c)) (top s (ix1 r)) = 1#1)
    (hlt : ∀ c' : Fin 4096, c' < c → ¬ FloatOps.cmpf .oeq (s (ix2 r c')) (top s (ix1 r)) = 1#1) :
    pick s (ix1 r) = BitVec.ofNat 32 c.val := by
  refine BitVec.eq_of_toInt_eq ?_
  rw [pick_toInt, toInt_small _ c.isLt]
  refine le_antisymm ?_ ?_
  · rw [Finset.fold_min_le]
    refine Or.inr ⟨ix2 r c, Finset.mem_filter.mpr ⟨Finset.mem_univ _, rfl⟩, ?_⟩
    rw [hits_apply, if_pos hc, toInt_small _ c.isLt]
  · rw [Finset.le_fold_min]
    have hcl : c.val < 4096 := c.isLt
    refine ⟨by omega, fun i hi => ?_⟩
    obtain ⟨r', c', rfl⟩ : ∃ r c, i = ix2 r c := ⟨i 0, i 1, eq_ix2 i⟩
    obtain rfl : r' = r := Fin.ext (Finset.mem_filter.mp hi).2
    rw [hits_apply]
    split
    · rename_i h
      rw [toInt_small _ c'.isLt]
      have : ¬ c' < c := fun hl => hlt c' hl h
      have : c.val ≤ c'.val := not_lt.mp this
      omega
    · have : (4095#32 : BitVec 32).toInt = 4095 := by decide
      omega

/-- The row number a pick becomes. -/
theorem addi_base (p : BitVec 32) (hp : p.toNat < 4096) (i : grid0.Coords) :
    (IntOp.addi p (baseNo i)).toNat = (i 0).val * 4096 + p.toNat := by
  have hi : (i 0).val < 4 := (i 0).isLt
  show (p + (BitVec.ofNat 32 (i 0).val * 4096#32)).toNat = _
  rw [BitVec.toNat_add, BitVec.toNat_mul, BitVec.toNat_ofNat, BitVec.toNat_ofNat]
  omega

/-- An entry of the array of row numbers. -/
theorem gIdx_toNat (x : S4x4096x3.Idx → F .f32) (p : Fin 4) (n : Fin 4096) (k : Fin 4) :
    (gIdx x (ix3 p n k)).toNat = p.val * 4096
      + (pick (scores (k0_pay7 (qblk x (grid0.coords (pt p n))) (k0_pay3 (cblk x (cloud (grid0.coords (pt p n))))) (k0_pay4 (cblk x (cloud (grid0.coords (pt p n)))))) k.val)
          (ix1 ⟨n.val % 256, Nat.mod_lt _ (by decide)⟩)).toNat := by
  have hp : (grid0.coords (pt p n) 0).val = p.val := by
    rw [coord0]; show (p.val * 16 + n.val / 256) / 16 = p.val; omega
  show (idxBlk _ _ _ _ (ix3 0 ⟨n.val % 256, _⟩ k)).toNat = _
  rw [idxBlk_apply, addi_base _ (pick_lt _ _), hp]

/-- Every row number lies inside the table. -/
theorem gIdx_lt (x : S4x4096x3.Idx → F .f32) (i : S4x4096x4.Idx) : (gIdx x i).toNat < 16384 := by
  obtain ⟨p, n, k, rfl⟩ : ∃ p n k, i = ix3 p n k := ⟨i 0, i 1, i 2, eq_ix3 i⟩
  rw [gIdx_toNat]
  have := pick_lt (scores (k0_pay7 (qblk x (grid0.coords (pt p n))) (k0_pay3 (cblk x (cloud (grid0.coords (pt p n))))) (k0_pay4 (cblk x (cloud (grid0.coords (pt p n)))))) k.val) ⟨n.val % 256, Nat.mod_lt _ (by decide)⟩
  have := p.isLt
  omega

end Cert.Proof.Knn
end
-- ==== Proof.Main.lean ====
/-
  The run of the whole program at any floats: the TensorCore region, the two reshapes, the SparseCore call, the slice and the
  last reshape. Its result is the input's rows that the row numbers name.
-/
module

public import proofs.«01_k».proof.Proof.ScCall
public import proofs.«01_k».proof.Proof.Rounds
public import Idealize.ShloMosaic.Lib.StableHlo.Run

@[expose] public section

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## What the host's operations hold -/

/-- The list of row numbers, as the SparseCore reads it. -/
def listOf (x : S4x4096x3.Idx → F .f32) : S65536.Idx → BitVec 32 := shapeCast S65536 (gIdx x) shapeCasts_S4x4096x4_S65536

/-- The table's rows at their first three columns (further columns repeat the third). -/
def rowsOf (x : S4x4096x3.Idx → F .f32) : S16384x16.Idx → F .f32 := fun j =>
  x (ix3 (⟨(j 0).val / 4096, by have : (j 0).val < 16384 := (j 0).isLt; omega⟩ : Fin 4) ⟨(j 0).val % 4096, Nat.mod_lt _ (by decide)⟩
    (⟨min (j 1).val 2, by omega⟩ : Fin 3))

/-- The program's result: at cloud `p`, query `n`, place `k`, the input's row whose number is there. -/
def kout (x : S4x4096x3.Idx → F .f32) : S4x4096x4x3.Idx → F .f32 := fun i =>
  x (ix3 (⟨(gIdx x (ix3 (i 0) (i 1) (i 2))).toNat % 16384 / 4096, by omega⟩ : Fin 4)
    ⟨(gIdx x (ix3 (i 0) (i 1) (i 2))).toNat % 4096, Nat.mod_lt _ (by decide)⟩ (i 3))

theorem tab_ok (x : S4x4096x3.Idx → F .f32) (G : S4x4096x16.Idx → F .f32) (h : TabFill x G) (j : S16384x16.Idx) (hj : (j 1).val < 3) :
    shapeCast S16384x16 G shapeCasts_S4x4096x16_S16384x16 j = rowsOf x j := by
  have h0 : (j 0).val < 16384 := (j 0).isLt
  have h1 : (j 1).val < 16 := (j 1).isLt
  have e : Shape.reshapeEquiv shapeCasts_S4x4096x16_S16384x16 j
      = ix3 (⟨(j 0).val / 4096, by omega⟩ : Fin 4) (⟨(j 0).val % 4096, Nat.mod_lt _ (by decide)⟩ : Fin 4096) (⟨(j 1).val, h1⟩ : Fin 16) := by
    refine Shape.reshapeEquiv_eq_of_rowMajor _ ?_
    rw [Shape.rowMajor_val_two, Shape.rowMajor_val_three]
    show ((j 0).val / 4096 * 4096 + (j 0).val % 4096) * 16 + (j 1).val = (j 0).val * 16 + (j 1).val
    omega
  show G (Shape.reshapeEquiv shapeCasts_S4x4096x16_S16384x16 j) = _
  rw [e, h _ hj]
  refine congrArg x ?_
  refine congrArg (ix3 _ _) (Fin.ext ?_)
  show (j 1).val = min (j 1).val 2
  omega

theorem out_eq (x : S4x4096x3.Idx → F .f32) (g : S65536x16.Idx → F .f32)
    (h : ∀ r : S65536x16.Idx, (r 1).val < 3 → g r = rowsOf x (nameOf (listOf x) r)) :
    shapeCast S4x4096x4x3 (extractStridedSlice S65536x3 ![0, 0] g slices_S65536x16_S65536x3_0_0) shapeCasts_S65536x3_S4x4096x4x3 = kout x := by
  funext i
  obtain ⟨p, n, k, c, rfl⟩ : ∃ p n k c, i = ix4 p n k c := ⟨i 0, i 1, i 2, i 3, eq_ix4 i⟩
  have hp := p.isLt; have hn := n.isLt; have hk := k.isLt; have hc := c.isLt
  have e1 : Shape.reshapeEquiv shapeCasts_S65536x3_S4x4096x4x3 (ix4 p n k c)
      = ix2 (⟨(p.val * 4096 + n.val) * 4 + k.val, by omega⟩ : Fin 65536) c := by
    refine Shape.reshapeEquiv_eq_of_rowMajor _ ?_
    rw [Shape.rowMajor_val_two, Shape.rowMajor_val_four]
    show ((p.val * 4096 + n.val) * 4 + k.val) * 3 + c.val = ((p.val * 4096 + n.val) * 4 + k.val) * 3 + c.val
    rfl
  have e2 : Shape.reshapeEquiv shapeCasts_S4x4096x4_S65536 (ix1 (⟨(p.val * 4096 + n.val) * 4 + k.val, by omega⟩ : Fin 65536)) = ix3 p n k := by
    refine Shape.reshapeEquiv_eq_of_rowMajor _ ?_
    rw [Shape.rowMajor_val_one, Shape.rowMajor_val_three]
    show (p.val * 4096 + n.val) * 4 + k.val = (p.val * 4096 + n.val) * 4 + k.val
    rfl
  show extractStridedSlice S65536x3 ![0, 0] g slices_S65536x16_S65536x3_0_0 (Shape.reshapeEquiv shapeCasts_S65536x3_S4x4096x4x3 (ix4 p n k c)) = _
  rw [e1]
  have e3 : extractStridedSlice S65536x3 ![0, 0] g slices_S65536x16_S65536x3_0_0 (ix2 (⟨(p.val * 4096 + n.val) * 4 + k.val, by omega⟩ : Fin 65536) c)
      = g (ix2 (⟨(p.val * 4096 + n.val) * 4 + k.val, by omega⟩ : Fin 65536) (⟨c.val, by omega⟩ : Fin 16)) := by
    refine congrArg g (funext fun a => Fin.ext ?_)
    fin_cases a
    · exact Nat.zero_add _
    · exact Nat.zero_add _
  rw [e3, h _ hc]
  have e4 : listOf x (ix1 (⟨(p.val * 4096 + n.val) * 4 + k.val, by omega⟩ : Fin 65536)) = gIdx x (ix3 p n k) := congrArg (gIdx x) e2
  show x (ix3 (⟨(listOf x (ix1 _)).toNat % 16384 / 4096, _⟩ : Fin 4) ⟨(listOf x (ix1 _)).toNat % 16384 % 4096, _⟩ ⟨min c.val 2, _⟩)
    = x (ix3 (⟨(gIdx x (ix3 p n k)).toNat % 16384 / 4096, _⟩ : Fin 4) ⟨(gIdx x (ix3 p n k)).toNat % 4096, _⟩ c)
  refine congrArg x ?_
  funext a
  refine Fin.ext ?_
  fin_cases a
  · show (listOf x (ix1 _)).toNat % 16384 / 4096 = _
    rw [e4]
  · show (listOf x (ix1 _)).toNat % 16384 % 4096 = (gIdx x (ix3 p n k)).toNat % 4096
    rw [e4]
    omega
  · show min c.val 2 = c.val
    omega

/-! ## One host operation from one buffer to another -/

/-- An operation that reads one buffer and writes another: the written one takes its value. -/
theorem wp_host (d : Dev nD) {op : HloOp τ sig (Elt F)} (x y : Ref sig .tc) (hb : op.bufs = {(x : DevRef τ sig), (y : DevRef τ sig)})
    (hw : op.writes = {(y : DevRef τ sig)}) (hxy : (x : DevRef τ sig) ≠ (y : DevRef τ sig)) (hf : op.fresh = ∅)
    (fx : x.ty.Contents (Elt F)) (fy gy : y.ty.Contents (Elt F))
    (hr : ∀ V : Valuation τ sig (Elt F), V (x : DevRef τ sig) = fx → op.result V (y : DevRef τ sig) = gy) (V₀ : Valuation τ sig (Elt F)) (Q : PUnit → sProp 𝕄) :
    iprop(boundary (SparseCore.T d) ∗ ((SparseCore.T d).loc x ↦{fullShare} (fx : Buf (Elt F) ((SparseCore.T d).loc x)))
        ∗ ((SparseCore.T d).loc y ↦{fullShare} (fy : Buf (Elt F) ((SparseCore.T d).loc y)))
        ∗ ((boundary (SparseCore.T d) ∗ ((SparseCore.T d).loc x ↦{fullShare} (fx : Buf (Elt F) ((SparseCore.T d).loc x)))
          ∗ ((SparseCore.T d).loc y ↦{fullShare} (gy : Buf (Elt F) ((SparseCore.T d).loc y)))) -∗ Q ⟨⟩))
      ⊢ wp frame (wpE ((K (F := F)).defs (D (F := F))) 𝒱 (SparseCore.T d) none) Set.univ (hlo rfl op (fun _ => .ret ⟨⟩)) Q := by
  have hx' : ∀ W : Valuation τ sig (Elt F), (StableHlo.held (SparseCore.T d) op.bufs W : sProp 𝕄)
      = iprop(((SparseCore.T d).loc x ↦{fullShare} (W (x : DevRef τ sig) : Buf (Elt F) ((SparseCore.T d).loc x)))
        ∗ ((SparseCore.T d).loc y ↦{fullShare} (W (y : DevRef τ sig) : Buf (Elt F) ((SparseCore.T d).loc y)))) := by
    intro W
    unfold StableHlo.held
    rw [hb, SparseCore.bigSep_insert' (by simpa using hxy), bigSep_singleton]
  let V : Valuation τ sig (Elt F) := Function.update (Function.update V₀ (x : DevRef τ sig) fx) (y : DevRef τ sig) fy
  have e1 : V (x : DevRef τ sig) = fx := by
    show Function.update _ _ _ _ = _
    rw [Function.update_of_ne hxy, Function.update_self]
  have e2 : V (y : DevRef τ sig) = fy := Function.update_self ..
  have e3 : op.result V (x : DevRef τ sig) = fx := (op.result_of_not_mem V (by rw [hw]; simpa using hxy)).trans e1
  have e4 : op.result V (y : DevRef τ sig) = gy := hr V e1
  have H := StableHlo.wp_hlo_within (defs := (K (F := F)).defs (D (F := F))) 𝒱 (SparseCore.T d) none Set.univ (hp := rfl) (op := op)
    (k := fun _ => .ret ⟨⟩) (S := op.bufs) (Finset.Subset.refl _) (V := V) (Q := Q) hf
  rw [hx', hx', e1, e2, e3, e4] at H
  iintro ⟨Hb, Hx, Hy, Hk⟩
  iapply H $$ [Hb Hx Hy]
  · isplitl [Hb]; · iexact Hb
    isplitl [Hx]; · iexact Hx
    iexact Hy
  iintro ⟨Hb, Hx, Hy⟩
  rw [wp_ret]
  imodintro
  iapply Hk
  isplitl [Hb]; · iexact Hb
  isplitl [Hx]; · iexact Hx
  iexact Hy

/-! ## The launch's ghost state -/

abbrev EP : Emb UR (MT nD τ sig (HIx 1) (Elt F) ℕ UU ℕ) := (Emb.inl : Emb UR (UR × Counters)).trans embR

abbrev pinned := Pipeline.pin (pcfgs (F := F)) adms

theorem cellInj : Function.Injective (Pipeline.cellOf (nD := nD) (τ := τ) (pinned (F := F))) := (launch₀0.toP (Val := Elt F)).cellOf_inj adms

/-- What the launch is given: the handshake's rounds, and the region's cells and tokens. -/
def u₀ : UU := (initOf (K (F := F)).hsCells (K (F := F)).hsToks, (initOf (Pipeline.cells (pinned (F := F)) cellInj) (Pipeline.launchToks (pinned (F := F)) cellInj), 1))

/-- A device's share for the region. -/
def G (d : Dev nD) : sProp 𝕄 := iprop(Pipeline.cellsGhost (pinned (F := F)) EP 0 d ∗ Pipeline.toksInit (pinned (F := F)) EP 0 d)

variable (m : (ℓ : Loc nD τ sig) → Buf (Elt F) ℓ) (ρ : Dev nD → PrngReg)

/-- The input on each device. -/
abbrev inp (d : Dev nD) : S4x4096x3.Idx → F .f32 := m (aLoc d)

abbrev PP : (K (F := F)).Pay (N := 1) (nD := nD) (Val := Elt F) (Name := ℕ) (U := UU) := P (fun d => listOf (inp m d)) (fun d => rowsOf (inp m d))

/-- What the region's launch gives, dealt to the devices. -/
theorem deal : iprop((bigSep Finset.univ fun d : Dev nD => bigSep Finset.univ fun p => Pipeline.cellsGhost (pinned (F := F)) EP p d)
    ∗ bigSep Finset.univ fun d : Dev nD => bigSep Finset.univ fun p => Pipeline.toksInit (pinned (F := F)) EP p d) ⊢ (bigSep Finset.univ fun d : Dev nD => G d : sProp 𝕄) := by
  rw [show (bigSep Finset.univ fun d : Dev nD => bigSep Finset.univ fun p => (Pipeline.cellsGhost (pinned (F := F)) EP p d : sProp 𝕄))
        = bigSep Finset.univ fun d : Dev nD => Pipeline.cellsGhost (pinned (F := F)) EP 0 d from bigSep_congr fun _ _ => bigSep_univ_of_subsingleton (0 : Fin 1),
      show (bigSep Finset.univ fun d : Dev nD => bigSep Finset.univ fun p => (Pipeline.toksInit (pinned (F := F)) EP p d : sProp 𝕄))
        = bigSep Finset.univ fun d : Dev nD => Pipeline.toksInit (pinned (F := F)) EP 0 d from bigSep_congr fun _ _ => bigSep_univ_of_subsingleton (0 : Fin 1),
      ← bigSep_sep']
  exact BIBase.Entails.rfl

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HR, -⟩
  imod (Pipeline.fund_ghost (pinned (F := F)) EP cellInj) $$ HR with ⟨Hc, Ht⟩
  imodintro
  isplitl [HH]; · iexact HH
  isplitl [Hc Ht]
  · iapply deal
    isplitl [Hc] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), emps]
  iempintro

/-! ## @main -/

theorem unscopedBufs_eq (d : Dev nD) (W : (b : Ref sig .tc) → Buf (Elt F) ((d.tc : Thread nD τ).loc b)) :
    (unscopedBufs d W : sProp 𝕄) = iprop((aLoc d ↦{fullShare} W main_arg0) ∗ (nLoc d ↦{fullShare} W main_v0_0) ∗ (bLoc d ↦{fullShare} W main_v0_1)
      ∗ (tLoc d ↦{fullShare} W main_v1) ∗ (iLoc d ↦{fullShare} W main_v2) ∗ (oLoc d ↦{fullShare} W main_v3)
      ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped) = {main_arg0, main_v0_0, main_v0_1, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The region at @main: from the input, the two output arrays, the debts and the region's ghost state. -/
theorem wp_tc [∀ e, Nonempty (Elt F e)] (X : Dev nD → S4x4096x3.Idx → F .f32) (V2 : Dev nD → S4x4096x4.Idx → BitVec 32) (V3 : Dev nD → S4x4096x16.Idx → F .f32) (b : ℕ)
    (d : Dev nD) (Q : PUnit → sProp 𝕄) :
    iprop((iprop(boundary (SparseCore.T d) ∗ postR X b d) -∗ Q ⟨⟩) ∗ boundary (SparseCore.T d) ∗ preR X V2 V3 b d ∗ levAts ((K (F := F)).L) ((K (F := F)).lev) ∗ G d)
      ⊢ wp frame (wpE ((K (F := F)).defs (D (F := F))) 𝒱 (SparseCore.T d) none) Set.univ (Prog.lift (.customCall (SparseCore.inner (Pipeline.entry 0)) ())) Q := by
  have H := RDat.RegionSeg.wp (pcfgs (F := F)) adms (fun _ c => rdat X V2 V3 b c) (none : HIx 1) cellInj EP defs₀ 𝒱₀ ((K (F := F)).L) ((K (F := F)).lev)
    (region X V2 V3 b) d none (by simp) (fun x => .ret x) Q
  have e1 : (region X V2 V3 b).post d = postR X b d := rfl
  have e2 : (region X V2 V3 b).pre d = preR X V2 V3 b d := rfl
  rw [e1, e2] at H
  have H2 := (K (F := F)).wp_liftProg (D (F := F)) 𝒱 (SparseCore.T d) Set.univ none (Prog.lift (.customCall (Pipeline.entry 0) ())) Q
  refine BIBase.Entails.trans ?_ H2
  refine BIBase.Entails.trans ?_ H
  unfold G
  iintro ⟨Hk, Hb, Hpre, Hlev, Hc, Ht⟩
  isplitl [Hk]
  · iintro ⟨Hb, Hp⟩
    rw [wp_ret]
    imodintro
    iapply Hk
    isplitl [Hb]; · iexact Hb
    iexact Hp
  isplitl [Hb]; · iexact Hb
  isplitl [Hpre]; · iexact Hpre
  isplitl [Hlev]; · iexact Hlev
  isplitl [Hc] <;> iassumption

/-- What @main leaves: the input as it was, and the result. -/
abbrev FIN (d : Dev nD) : sProp 𝕄 := iprop((aLoc d ↦{fullShare} inp m d) ∗ ((SparseCore.T d).loc main_v5 ↦{fullShare} (kout (inp m d) : Buf (Elt F) ((SparseCore.T d).loc main_v5))))

/-- The valuation of a device's buffers at launch. -/
abbrev V₀ (d : Dev nD) : Valuation τ sig (Elt F) := fun b => m (d, b)

theorem call_pre (d : Dev nD) (ft : S16384x16.Idx → F .f32) (h : TabOK (fun d => rowsOf (inp m d)) d ft) (f : Buf (Elt F) (oLoc d)) :
    iprop((tLoc d ↦{fullShare} (ft : Buf (Elt F) (tLoc d))) ∗ (iLoc d ↦{fullShare} (listOf (inp m d) : Buf (Elt F) (iLoc d))) ∗ (oLoc d ↦{fullShare} f))
      ⊢ (bigSep Finset.univ fun c : Fin ((K (F := F)).nCore 0) => (PP m).st 0 d c : sProp 𝕄) :=
  call_take (fun d => listOf (inp m d)) (fun d => rowsOf (inp m d)) d ft h f

/-- What the core owes, taken out of its state before the call and put back. -/
theorem tcSt_owing (d : Dev nD) : ((K (F := F)).tcSt EH d 0 : sProp 𝕄) ⊢ iprop(owing (8 * 0) d ∗ (owing (8 * 0) d -∗ (K (F := F)).tcSt EH d 0)) := by
  unfold SparseCore.Cfg.tcSt owing
  iintro ⟨H, R⟩
  isplitl [H]; · iexact H
  iintro H'
  isplitl [H']; · iexact H'
  iexact R

set_option maxHeartbeats 1000000 in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hn, Hbt, Ht, Hi, Ho, H4, H5⟩, Hts, -⟩, HG⟩
  ihave Hlev := (SparseCore.Cfg.ctx_levAts κ) $$ Hctx
  ihave Hst' := (tcSt_owing d) $$ Hst
  icases Hst' with ⟨HO, Hback⟩
  iapply (wp_tc (inp m) (fun d => m (nLoc d)) (fun d => m (bLoc d)) (8 * 0) d)
  isplitr [Hb Ha Hn Hbt HO Hlev HG]
  · unfold postR
    iintro ⟨Hb, Ha, Hn, ⟨%G, %hG, Hbt⟩, HO⟩
    ihave Hst := Hback $$ HO
    iapply (wp_host d main_v0_1 main_v1 (StableHlo.reshape_bufs ..) (StableHlo.reshape_writes ..) (by decide) rfl G (m (tLoc d))
      (shapeCast S16384x16 G shapeCasts_S4x4096x16_S16384x16) (fun V hV => by rw [StableHlo.reshape_result, hV]; rfl) (V₀ m d))
    isplitl [Hb]; · iexact Hb
    isplitl [Hbt]; · iexact Hbt
    isplitl [Ht]; · iexact Ht
    iintro ⟨Hb, -, Ht⟩
    iapply (wp_host d main_v0_0 main_v2 (StableHlo.reshape_bufs ..) (StableHlo.reshape_writes ..) (by decide) rfl (gIdx (inp m d)) (m (iLoc d))
      (listOf (inp m d)) (fun V hV => by rw [StableHlo.reshape_result, hV]; rfl) (V₀ m d))
    isplitl [Hb]; · iexact Hb
    isplitl [Hn]; · iexact Hn
    isplitl [Hi]; · iexact Hi
    iintro ⟨Hb, -, Hi⟩
    iapply ((K (F := F)).wp_run (D (F := F)) 𝒱 (EH := EH) (P := PP m) κ d 0)
    isplitr; · iexact Hctx
    isplitl [Hst]; · iexact Hst
    isplitl [Ht Hi Ho]
    · iapply (call_pre m d _ (fun j hj => tab_ok (inp m d) G hG j hj) (m (oLoc d)))
      isplitl [Ht]; · iexact Ht
      isplitl [Hi]; · iexact Hi
      iexact Ho
    iintro ⟨Hst, Hdn⟩
    ihave Hdn' := (call_done (fun d => listOf (inp m d)) (fun d => rowsOf (inp m d)) d) $$ Hdn
    icases Hdn' with ⟨%g, %hg, Ho⟩
    iapply (wp_host d main_v3 main_v4 rfl rfl (by decide) rfl g (m ((SparseCore.T d).loc main_v4))
      (extractStridedSlice S65536x3 ![0, 0] g slices_S65536x16_S65536x3_0_0) (fun V hV => by rw [StableHlo.unary_result, hV]) (V₀ m d))
    isplitl [Hb]; · iexact Hb
    isplitl [Ho]; · iexact Ho
    isplitl [H4]; · iexact H4
    iintro ⟨Hb, -, H4⟩
    iapply (wp_host d main_v4 main_v5 (StableHlo.reshape_bufs ..) (StableHlo.reshape_writes ..) (by decide) rfl _ (m ((SparseCore.T d).loc main_v5))
      (kout (inp m d)) (fun V hV => by rw [StableHlo.reshape_result, hV]; exact out_eq (inp m d) g hg) (V₀ m d))
    isplitl [Hb]; · iexact Hb
    isplitl [H4]; · iexact H4
    isplitl [H5]; · iexact H5
    iintro ⟨Hb, -, H5⟩
    imodintro
    isplitl [Hst]; · iexact Hst
    isplitl [Ha H5]
    · isplitl [Ha] <;> iassumption
    isplitl [Hb] <;> iassumption
  isplitl [Hb]; · iexact Hb
  isplitl [Ha Hn Hbt HO]
  · unfold preR
    isplitl [Ha]; · iexact Ha
    isplitl [Hn]; · iexact Hn
    isplitl [Hbt]; · iexact Hbt
    iexact HO
  isplitl [Hlev]; · iexact Hlev
  iexact HG

def fq (d : Dev nD) (s' : Phys nD τ sig (Elt F)) : Prop :=
  s'.mem.mem (aLoc d) = m (aLoc d) ∧ s'.mem.mem ((SparseCore.T d).loc main_v5) = (kout (inp m d) : Buf (Elt F) ((SparseCore.T d).loc main_v5))

set_option maxRecDepth 16384 in
theorem hfin (d : Dev nD) (s' : Phys nD τ sig (Elt F)) : iprop(FIN m d ∗ SI s') ⊢ (⌜fq m d s'⌝ : sProp 𝕄) := by
  iintro ⟨⟨Ha, H5⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := (SparseCore.T d).loc main_v5) (I := Finset.univ) (q := fullShare) (f := kout (inp m d))) $$ [HSI H5]
  · isplitl [HSI] <;> iassumption
  icases H with %h2
  ipureintro; exact ⟨funext fun i => h1 i (Finset.mem_univ i), funext fun i => h2 i (Finset.mem_univ i)⟩

/-- What a run leaves: the input as it was, the result at the value stated, the semaphores at zero. -/
def QC : PUnit × MemSt nD τ sig (Elt F) → Prop := fun r =>
  (∀ c : Dev nD, r.2.mem (aLoc c) = m (aLoc c) ∧ r.2.mem ((SparseCore.T c).loc main_v5) = (kout (inp m c) : Buf (Elt F) ((SparseCore.T c).loc main_v5)))
    ∧ r.2.sem = fun _ => 0

/-- Every run from any launch memory ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (fun d => listOf (inp m d)) (fun d => rowsOf (inp m d)) facts (fun d x => gIdx_lt (inp m d) _))
    (fun q _ => match q with | 0 => SparseCore.Cfg.VecSplit.of_plain (vecSplit (fun d => listOf (inp m d)) (fun d => rowsOf (inp m d))))
    m ρ main (fun d => G d) (FIN m) (u₀ (F := F)) (sep_elim_left.trans (hu₀ m)) (hmain m ρ) (fq m) (hfin m) (QC m) (fun _ h hz => ⟨h, hz⟩)

end Cert.Proof.Knn
end
-- ==== Proof.Picks.lean ====
/-
  Four rounds of "the greatest, its first place, mask it" on real scores pick the first four places of the stable descending
  sort: what the kernel's rounds and the reference's top-k have in common.
-/
module

public import proofs.«01_k».proof.Proof.Rounds
public import Idealize.ShloMosaic.Lib.SortPrefix
public import Idealize.ShloMosaic.Lib.ValueIdx
public import Idealize.ShloMosaic.PureOps.Ideal.Laws

@[expose] public section

noncomputable section

namespace Cert.Proof.Knn

open Cert.KernelIdeal Cert.KernelIdeal.Gen
open Idealize.ShloMosaic Idealize.ShloMosaic.ValueIdx

/-! ## The stable descending sort -/

/-- The stable sort asks its relation only of a later element and an earlier one. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The place that the stable descending sort of the keys puts at `k`. -/
def place {n : ℕ} (key : Fin n → EReal) (k : Fin n) : Fin n :=
  sortedFrom (fun a b => FloatOps.cmpfTotal (F := Ideal) (φ := .f32) .gt (key a) (key b) == 1#1) k

/-- The greater key first, of equal keys the earlier place. -/
def ahead {n : ℕ} (key : Fin n → EReal) (a b : Fin n) : Bool :=
  decide (key b < key a) || (decide (key a = key b) && decide (a < b))

theorem gt_iff (x y : EReal) : (FloatOps.cmpfTotal (F := Ideal) (φ := .f32) .gt x y == 1#1) = decide (y < x) := by
  show (BitVec.ofBool (decide (y < x)) == 1#1) = _
  cases decide (y < x) <;> rfl

theorem place_eq {n : ℕ} (key : Fin n → EReal) (k : Fin n) : place key k = sortedFrom (ahead key) k := by
  have h : sortPositions n (fun a b => FloatOps.cmpfTotal (F := Ideal) (φ := .f32) .gt (key a) (key b) == 1#1)
      = sortPositions n (ahead key) := by
    refine stableSort_agree _ _ _ ((List.pairwise_lt_finRange n).imp ?_)
    intro a b hab
    rw [gt_iff]
    simp [ahead, not_lt.mpr hab.le]
  unfold place sortedFrom
  simp only [List.get_eq_getElem, Fin.val_cast, h]

theorem ahead_total {n : ℕ} (key : Fin n → EReal) : StrictTotalBefore (ahead key) :=
  StrictTotalBefore.of_key_then_position (fun x y : EReal => decide (y < x)) key (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- Places chosen one after the other, each the first of the greatest key among those not yet chosen, are the sort's first. -/
theorem place_of_rounds {n m : ℕ} (hm : m ≤ n) (key : Fin n → EReal) (p : Fin m → Fin n) (hinj : Function.Injective p)
    (hp : ∀ (k : Fin m) (c : Fin n), (∀ j, j < k → p j ≠ c) → key c ≤ key (p k) ∧ (c < p k → key c < key (p k))) (k : Fin m) :
    place key (k.castLE hm) = p k := by
  have hno : ∀ (k : Fin m) (c : Fin n), (∀ j, j < k → p j ≠ c) → ahead key c (p k) = false := by
    intro k c hc
    obtain ⟨h1, h2⟩ := hp k c hc
    unfold ahead
    simp only [Bool.or_eq_false_iff, decide_eq_false_iff_not, not_lt, Bool.and_eq_false_iff]
    refine ⟨h1, ?_⟩
    by_cases hlt : c < p k
    · exact Or.inl (h2 hlt).ne
    · exact Or.inr (not_lt.mp hlt)
  rw [place_eq]
  refine (ahead_total key).sortedFrom_eq_of_prefix hm p hinj (fun i j hij => hno i (p j) fun j' hj' e => ?_)
    (fun i c hc => hno i c fun j _ => hc j) k
  exact absurd (hinj e) (hj'.trans hij).ne

/-! ## A round -/

/-- The greatest score of a row is at least every one, and one of them. -/
theorem top_spec (s : FVec Ideal S256x4096 .f32) (r : Fin 256) :
    (∀ c : Fin 4096, s (ix2 r c) ≤ top s (ix1 r)) ∧ ∃ c : Fin 4096, s (ix2 r c) = top s (ix1 r) := by
  have e : top s (ix1 r) = (Finset.univ : Finset (Fin 4096)).fold max (⊥ : EReal) fun c => s (ix2 r c) := by
    unfold top
    refine (Ideal.multiReduction_maximumf_single s 0xFF800000#32 reduces_S256x4096_S256 (.inl rfl) rfl (ix1 r)).trans ?_
    have hb : FloatOps.ofBits (F := Ideal) .f32 0xFF800000#32 = (⊥ : EReal) := by
      show Ideal.ofBits .f32 0xFF800000#32 = ⊥
      simp [Ideal.ofBits, Ideal.ieee]
    rw [hb]
    refine congrArg (fun f => (Finset.univ : Finset (Fin 4096)).fold max (⊥ : EReal) f) (funext fun c => congrArg s ?_)
    funext a
    apply Fin.ext
    match a with
    | ⟨0, _⟩ => rfl
    | ⟨1, _⟩ => rfl
  obtain ⟨c, -, hc⟩ := Finset.exists_max_image Finset.univ (fun c : Fin 4096 => s (ix2 r c)) ⟨0, Finset.mem_univ _⟩
  refine ⟨fun c' => ?_, c, ?_⟩
  · rw [e, Finset.le_fold_max]
    exact Or.inr ⟨c', Finset.mem_univ _, le_rfl⟩
  · rw [e]
    refine le_antisymm ?_ ?_
    · rw [Finset.le_fold_max]
      exact Or.inr ⟨c, Finset.mem_univ _, le_rfl⟩
    · rw [Finset.fold_max_le]
      exact ⟨bot_le, hc⟩

/-- A row's pick as a column. -/
def pickCol (s : FVec Ideal S256x4096 .f32) (r : Fin 256) : Fin 4096 := ⟨(pick s (ix1 r)).toNat, pick_lt s r⟩

theorem pickCol_val (s : FVec Ideal S256x4096 .f32) (r : Fin 256) : (pickCol s r).val = (pick s (ix1 r)).toNat := by
  unfold pickCol
  exact Fin.val_mk _

/-- The pick is the first column of the row's greatest score. -/
theorem pickCol_spec (s : FVec Ideal S256x4096 .f32) (r : Fin 256) (c : Fin 4096) :
    s (ix2 r c) ≤ s (ix2 r (pickCol s r)) ∧ (c < pickCol s r → s (ix2 r c) < s (ix2 r (pickCol s r))) := by
  obtain ⟨hle, c₀, hc₀⟩ := top_spec s r
  have hoeq : ∀ c, FloatOps.cmpf (F := Ideal) (φ := .f32) .oeq (s (ix2 r c)) (top s (ix1 r)) = 1#1 ↔ s (ix2 r c) = top s (ix1 r) := by
    intro c
    show BitVec.ofBool (decide (s (ix2 r c) = top s (ix1 r))) = 1#1 ↔ _
    by_cases h : s (ix2 r c) = top s (ix1 r) <;> simp [h]
  obtain ⟨c₁, h₁, hmin⟩ := Finset.exists_min_image (Finset.univ.filter fun c : Fin 4096 => s (ix2 r c) = top s (ix1 r)) id
    ⟨c₀, Finset.mem_filter.mpr ⟨Finset.mem_univ _, hc₀⟩⟩
  have ht := (Finset.mem_filter.mp h₁).2
  have hlt : ∀ c', c' < c₁ → s (ix2 r c') ≠ top s (ix1 r) := fun c' hc' h =>
    absurd (hmin c' (Finset.mem_filter.mpr ⟨Finset.mem_univ _, h⟩)) (not_le.mpr hc')
  have hp : pickCol s r = c₁ := by
    refine Fin.ext ?_
    rw [pickCol_val, pick_first s r c₁ ((hoeq _).mpr ht) (fun c' hc' h => hlt c' hc' ((hoeq _).mp h)), BitVec.toNat_ofNat,
      Nat.mod_eq_of_lt (by have := c₁.isLt; omega)]
  rw [hp, ht]
  exact ⟨hle c, fun h => lt_of_le_of_ne (hle c) (hlt c h)⟩

/-- A round's masking: −∞ at the pick, the score elsewhere. -/
theorem hide_pick (s : FVec Ideal S256x4096 .f32) (r : Fin 256) (c : Fin 4096) :
    hide s (pick s) (ix2 r c) = if pickCol s r = c then (⊥ : EReal) else s (ix2 r c) := by
  rw [hide_apply]
  have hb : Scalar.ofBits (F := Ideal) .f32 0xFF800000#32 = (⊥ : EReal) := by
    show Ideal.ofBits .f32 0xFF800000#32 = ⊥
    simp [Ideal.ofBits, Ideal.ieee]
  rw [hb]
  refine if_congr ?_ rfl rfl
  have hc : (BitVec.ofNat 32 c.val).toNat = c.val := by
    rw [BitVec.toNat_ofNat, Nat.mod_eq_of_lt (by have := c.isLt; omega)]
  show BitVec.ofBool (BitVec.ofNat 32 c.val == pick s (ix1 r)) = 1#1 ↔ _
  constructor
  · intro h
    have h' : BitVec.ofNat 32 c.val = pick s (ix1 r) := by
      by_contra hne
      rw [beq_eq_false_iff_ne.mpr hne] at h
      exact absurd h (by decide)
    exact Fin.ext (by rw [pickCol_val, ← h', hc])
  · intro h
    have h' : BitVec.ofNat 32 c.val = pick s (ix1 r) := BitVec.eq_of_toNat_eq (by rw [hc, ← h, pickCol_val])
    rw [h']
    simp

/-- The pick of round `k`. -/
def pickAt (s : FVec Ideal S256x4096 .f32) (r : Fin 256) (k : ℕ) : Fin 4096 := pickCol (scores s k) r

/-- After `k` rounds: −∞ at the picks so far, the score elsewhere. -/
theorem scores_apply (s : FVec Ideal S256x4096 .f32) (r : Fin 256) (c : Fin 4096) (k : ℕ) :
    ((∃ j, j < k ∧ pickAt s r j = c) ∧ scores s k (ix2 r c) = (⊥ : EReal))
      ∨ ((∀ j, j < k → pickAt s r j ≠ c) ∧ scores s k (ix2 r c) = s (ix2 r c)) := by
  induction k with
  | zero => exact Or.inr ⟨fun j hj => absurd hj (Nat.not_lt_zero j), rfl⟩
  | succ k ih =>
    have e : scores s (k + 1) (ix2 r c) = if pickAt s r k = c then (⊥ : EReal) else scores s k (ix2 r c) := hide_pick (scores s k) r c
    by_cases hk : pickAt s r k = c
    · exact Or.inl ⟨⟨k, Nat.lt_succ_self k, hk⟩, by rw [e, if_pos hk]⟩
    · rw [if_neg hk] at e
      rcases ih with ⟨⟨j, hj, h⟩, hs⟩ | ⟨h, hs⟩
      · exact Or.inl ⟨⟨j, hj.trans (Nat.lt_succ_self k), h⟩, e.trans hs⟩
      · refine Or.inr ⟨fun j hj => ?_, e.trans hs⟩
        rcases Nat.lt_succ_iff_lt_or_eq.mp hj with h' | rfl
        · exact h j h'
        · exact hk

/-- Of more columns than rounds one is not yet picked. -/
theorem exists_unpicked (s : FVec Ideal S256x4096 .f32) (r : Fin 256) (k : ℕ) (hk : k < 4096) :
    ∃ c : Fin 4096, ∀ j, j < k → pickAt s r j ≠ c := by
  by_contra hno
  push Not at hno
  choose f hf using hno
  have hinj : Function.Injective fun c : Fin 4096 => (⟨f c, (hf c).1⟩ : Fin k) := by
    intro a b hab
    have : f a = f b := congrArg Fin.val hab
    rw [← (hf a).2, ← (hf b).2, this]
  have := Fintype.card_le_of_injective _ hinj
  simp only [Fintype.card_fin] at this
  omega

/-- On scores none of which is −∞, a round's pick is a column not yet picked. -/
theorem pickAt_fresh (s : FVec Ideal S256x4096 .f32) (r : Fin 256) (hs : ∀ c : Fin 4096, s (ix2 r c) ≠ (⊥ : EReal)) (k : ℕ) (hk : k < 4096) :
    ∀ j, j < k → pickAt s r j ≠ pickAt s r k := by
  rcases scores_apply s r (pickAt s r k) k with ⟨_, hb⟩ | ⟨h, _⟩
  · obtain ⟨c, hc⟩ := exists_unpicked s r k hk
    have hle := (pickCol_spec (scores s k) r c).1
    rcases scores_apply s r c k with ⟨⟨j, hj, h⟩, _⟩ | ⟨_, hv⟩
    · exact absurd h (hc j hj)
    · rw [hv] at hle
      exact absurd (le_bot_iff.mp (hle.trans_eq hb)) (hs c)
  · exact h

/-- Four rounds on a row none of whose scores is −∞ pick the first four places of its stable descending sort. -/
theorem pickAt_eq_place (s : FVec Ideal S256x4096 .f32) (r : Fin 256) (hs : ∀ c : Fin 4096, s (ix2 r c) ≠ (⊥ : EReal)) (k : Fin 4) :
    pickAt s r k.val = place (fun c : Fin 4096 => s (ix2 r c)) (k.castLE (by decide)) := by
  refine (place_of_rounds (by decide) (fun c : Fin 4096 => s (ix2 r c)) (fun k : Fin 4 => pickAt s r k.val) ?_ ?_ k).symm
  · intro a b hab
    have ha : a.val < 4096 := a.isLt.trans (by decide)
    have hb : b.val < 4096 := b.isLt.trans (by decide)
    rcases lt_trichotomy a.val b.val with h | h | h
    · exact absurd hab (pickAt_fresh s r hs b.val hb a.val h)
    · exact Fin.ext h
    · exact absurd hab.symm (pickAt_fresh s r hs a.val ha b.val h)
  · intro k c hc
    have hk : k.val < 4096 := k.isLt.trans (by decide)
    obtain ⟨h1, h2⟩ := pickCol_spec (scores s k.val) r c
    have ec : scores s k.val (ix2 r c) = s (ix2 r c) := by
      rcases scores_apply s r c k.val with ⟨⟨j, hj, h⟩, _⟩ | ⟨_, hv⟩
      · exact absurd h (hc ⟨j, hj.trans k.isLt⟩ hj)
      · exact hv
    have ep : scores s k.val (ix2 r (pickCol (scores s k.val) r)) = s (ix2 r (pickAt s r k.val)) := by
      rcases scores_apply s r (pickAt s r k.val) k.val with ⟨⟨j, hj, h⟩, _⟩ | ⟨_, hv⟩
      · exact absurd h (pickAt_fresh s r hs k.val hk j hj)
      · exact hv
    rw [ec, ep] at h1 h2
    exact ⟨h1, h2⟩

end Cert.Proof.Knn

end
-- ==== Proof.Dist.lean ====
/-
  The scores of the TensorCore kernel at exact arithmetic, as sums over the three coordinates; on a finite input they are real.
-/
module

public import proofs.«01_k».proof.Proof.Picks
public import Idealize.ShloMosaic.Lib.MatmulPlain
public import Idealize.ShloMosaic.Lib.ValueLayout

@[expose] public section

noncomputable section

namespace Cert.Proof.Knn

open Cert.KernelIdeal Cert.KernelIdeal.Gen
open Idealize.ShloMosaic Idealize.ShloMosaic.ValueIdx
open scoped BigOperators

/-! ## The values named -/

/-- The product of two points of cloud `b`. -/
def dotOf (X : S4x4096x3.Idx → EReal) (b : Fin 4) (n c : Fin 4096) : EReal := ∑ d : Fin 3, X (ix3 b n d) * X (ix3 b c d)

/-- The literal −2. -/
def minusTwo : EReal := Ideal.ofBits .f32 0xC0000000#32

/-- The kernel's score of point `c` for query `n`. -/
def kscore (X : S4x4096x3.Idx → EReal) (b : Fin 4) (n c : Fin 4096) : EReal :=
  (0 - dotOf X b n n - minusTwo * dotOf X b n c) - dotOf X b c c

/-- The reference's. -/
def rscore (X : S4x4096x3.Idx → EReal) (b : Fin 4) (n c : Fin 4096) : EReal :=
  (-dotOf X b c c - minusTwo * dotOf X b n c) - dotOf X b n n

theorem minusTwo_eq : minusTwo = ((-2 : ℝ) : EReal) := by
  unfold minusTwo
  simp [Ideal.ofBits, Ideal.ieee, -EReal.coe_mul, -EReal.coe_neg]
  norm_num

/-! ## On finite inputs -/

/-- Every entry is a real number. -/
def Real3 (X : S4x4096x3.Idx → EReal) : Prop := ∀ i, ∃ v : ℝ, X i = (v : EReal)

theorem dotOf_real (X : S4x4096x3.Idx → EReal) (hX : Real3 X) (b : Fin 4) (n c : Fin 4096) : ∃ v : ℝ, dotOf X b n c = (v : EReal) := by
  choose f hf using hX
  refine ⟨∑ d : Fin 3, f (ix3 b n d) * f (ix3 b c d), ?_⟩
  unfold dotOf
  simp only [hf, Fin.sum_univ_three, EReal.coe_add, EReal.coe_mul]

/-- The two scores are one real number. -/
theorem scores_real (X : S4x4096x3.Idx → EReal) (hX : Real3 X) (b : Fin 4) (n c : Fin 4096) :
    ∃ v : ℝ, kscore X b n c = (v : EReal) ∧ rscore X b n c = (v : EReal) := by
  obtain ⟨q, hq⟩ := dotOf_real X hX b n n
  obtain ⟨p, hp⟩ := dotOf_real X hX b c c
  obtain ⟨i, hi⟩ := dotOf_real X hX b n c
  refine ⟨(0 - q - (-2) * i) - p, ?_, ?_⟩
  · unfold kscore
    rw [hq, hp, hi, minusTwo_eq]
    push_cast
    rfl
  · unfold rscore
    rw [hq, hp, hi, minusTwo_eq, ← EReal.coe_neg, ← EReal.coe_mul, ← EReal.coe_sub, ← EReal.coe_sub]
    exact congrArg _ (by ring)

/-! ## The kernel's payload -/

theorem pay5_apply (x : Vec Ideal S1x256x3 .f32) (r : Fin 256) (d : Fin 3) : k0_pay5 x (ix2 r d) = x (ix3 (0 : Fin 1) r d) :=
  shapeCast_1ab_ab_apply x shapeCasts_S1x256x3_S256x3 r d

theorem pay2_apply (x : Vec Ideal S1x4096x3 .f32) (d : Fin 3) (c : Fin 4096) : k0_pay2 x (ix2 d c) = x (ix3 (0 : Fin 1) c d) :=
  (transpose_ix2_apply _ transposes_S4096x3_p1_0_S3x4096 d c).trans (shapeCast_1ab_ab_apply x shapeCasts_S1x4096x3_S4096x3 c d)

theorem pay3_apply (x : Vec Ideal S1x4096x3 .f32) (d : Fin 3) (c : Fin 4096) : k0_pay3 x (ix2 d c) = x (ix3 (0 : Fin 1) c d) := by
  unfold k0_pay3
  rw [shapeCast_self]
  exact pay2_apply x d c

theorem pay4_apply (x : Vec Ideal S1x4096x3 .f32) (c : Fin 4096) :
    k0_pay4 x (ix2 (0 : Fin 1) c) = ∑ d : Fin 3, x (ix3 (0 : Fin 1) c d) * x (ix3 (0 : Fin 1) c d) := by
  unfold k0_pay4
  rw [shapeCast_self]
  refine (shapeCast_apply _ shapeCasts_S4096_S1x4096 (ix2 (0 : Fin 1) c) (ix1 c) ?_).trans ?_
  · simp [Shape.rowMajor_val_one, Shape.rowMajor_val_two]
  · refine (Ideal.multiReduction_add_single _ 0x00000000#32 reduces_S3x4096_S4096 (.inl rfl) rfl (ix1 c)).trans ?_
    refine Finset.sum_congr rfl fun d _ => ?_
    have e : reduces_S3x4096_S4096.lift (ix1 c) d = ix2 (⟨d.val, d.isLt⟩ : Fin 3) c := by
      funext a
      apply Fin.ext
      match a with
      | ⟨0, _⟩ => rfl
      | ⟨1, _⟩ => rfl
    rw [e, mulf_apply, pay2_apply]
    rfl

theorem rowSum_apply (x : Vec Ideal S1x256x3 .f32) (r : Fin 256) :
    multiReduction .add [1] S256 (mulf (k0_pay5 x) (k0_pay5 x)) 0x00000000#32 reduces_S256x3_S256 (.inl rfl) rfl (ix1 r)
      = ∑ d : Fin 3, x (ix3 (0 : Fin 1) r d) * x (ix3 (0 : Fin 1) r d) := by
  refine (Ideal.multiReduction_add_single _ 0x00000000#32 reduces_S256x3_S256 (.inl rfl) rfl (ix1 r)).trans ?_
  refine Finset.sum_congr rfl fun d _ => ?_
  have e : reduces_S256x3_S256.lift (ix1 r) d = ix2 r (⟨d.val, d.isLt⟩ : Fin 3) := by
    funext a
    apply Fin.ext
    match a with
    | ⟨0, _⟩ => rfl
    | ⟨1, _⟩ => rfl
  rw [e, mulf_apply, pay5_apply]
  rfl

/-- The score of column `c` for row `r` of a block. -/
theorem pay7_apply (x : Vec Ideal S1x256x3 .f32) (y : Vec Ideal S1x4096x3 .f32) (r : Fin 256) (c : Fin 4096) :
    k0_pay7 x (k0_pay3 y) (k0_pay4 y) (ix2 r c)
      = ((0 - ∑ d : Fin 3, x (ix3 (0 : Fin 1) r d) * x (ix3 (0 : Fin 1) r d))
          - minusTwo * ∑ d : Fin 3, x (ix3 (0 : Fin 1) r d) * y (ix3 (0 : Fin 1) c d))
        - ∑ d : Fin 3, y (ix3 (0 : Fin 1) c d) * y (ix3 (0 : Fin 1) c d) := by
  unfold k0_pay7
  simp only [subf_apply, mulf_apply]
  refine congr (congrArg (fun a b : EReal => a - b) (congr (congrArg (fun a b : EReal => a - b) ?_) ?_)) ?_
  · refine (broadcastTo_apply _ broadcasts_S256x1_S256x4096 (ix2 r c) (ix2 r (0 : Fin 1)) ?_).trans ?_
    · intro a
      match a with
      | ⟨0, _⟩ => rfl
      | ⟨1, _⟩ => rfl
    · refine congr (congrArg (fun a b : EReal => a - b) ?_) ?_
      · exact Ideal.ofBits_zero_f32
      · refine (shapeCast_apply _ shapeCasts_S256_S256x1 (ix2 r (0 : Fin 1)) (ix1 r) ?_).trans (rowSum_apply x r)
        simp [Shape.rowMajor_val_one, Shape.rowMajor_val_two]
  · refine congr (congrArg (fun a b : EReal => a * b) rfl) ?_
    refine (Ideal.matmul_plain_apply (M := 256) (K := 3) (N := 4096) none (k0_pay5 x) (k0_pay3 y) (constant S256x4096 .f32 0x00000000#32) r c).trans ?_
    rw [constant_apply, Ideal.ofBits_zero_f32, zero_add]
    exact Finset.sum_congr rfl fun d _ => by rw [pay5_apply, pay3_apply]
  · refine (broadcastTo_apply _ broadcasts_S1x4096_S256x4096 (ix2 r c) (ix2 (0 : Fin 1) c) ?_).trans (pay4_apply y c)
    intro a
    match a with
    | ⟨0, _⟩ => rfl
    | ⟨1, _⟩ => rfl

/-- The block of scores that holds query `n` of cloud `b`. -/
def block (X : S4x4096x3.Idx → EReal) (b : Fin 4) (n : Fin 4096) : FVec Ideal S256x4096 .f32 :=
  k0_pay7 (F := Ideal) (qblk (F := Ideal) X (grid0.coords (pt b n))) (k0_pay3 (F := Ideal) (cblk (F := Ideal) X (cloud (grid0.coords (pt b n)))))
    (k0_pay4 (F := Ideal) (cblk (F := Ideal) X (cloud (grid0.coords (pt b n)))))

/-- The scores of query `n` of cloud `b`, at the grid point that computes them. -/
theorem block_scores (X : S4x4096x3.Idx → EReal) (b : Fin 4) (n c : Fin 4096) :
    block X b n (ix2 (⟨n.val % 256, Nat.mod_lt _ (by decide)⟩ : Fin 256) c)
      = kscore X b n c := by
  have hb : cloud (grid0.coords (pt b n)) = b := by
    refine Fin.ext ((coord0 _).trans ?_)
    show (b.val * 16 + n.val / 256) / 16 = b.val
    omega
  have hn : qrow (grid0.coords (pt b n)) (⟨n.val % 256, Nat.mod_lt _ (by decide)⟩ : Fin 256) = n := by
    refine Fin.ext ?_
    show 256 * (grid0.coords (pt b n) 1).val + n.val % 256 = n.val
    rw [coord1]
    show 256 * ((b.val * 16 + n.val / 256) % 16) + n.val % 256 = n.val
    omega
  unfold block
  rw [pay7_apply]
  have hx : ∀ d : Fin 3, qblk (F := Ideal) X (grid0.coords (pt b n)) (ix3 (0 : Fin 1) (⟨n.val % 256, Nat.mod_lt _ (by decide)⟩ : Fin 256) d) = X (ix3 b n d) := by
    intro d
    show X (ix3 (cloud _) (qrow _ _) d) = _
    rw [hb, hn]
  have hy : ∀ (c : Fin 4096) (d : Fin 3), cblk (F := Ideal) X (cloud (grid0.coords (pt b n))) (ix3 (0 : Fin 1) c d) = X (ix3 b c d) := by
    intro c d
    show X (ix3 (cloud _) c d) = _
    rw [hb]
  simp only [hx, hy]
  rfl

/-- On a finite input, the row numbers are the first four places of the reference's scores. -/
theorem gIdx_place (X : S4x4096x3.Idx → EReal) (hX : Real3 X) (b : Fin 4) (n : Fin 4096) (k : Fin 4) :
    (gIdx (F := Ideal) X (ix3 b n k)).toNat = b.val * 4096 + (place (rscore X b n) (k.castLE (by decide))).val := by
  have hk : (fun c : Fin 4096 => block X b n (ix2 (⟨n.val % 256, Nat.mod_lt _ (by decide)⟩ : Fin 256) c)) = rscore X b n := by
    funext c
    obtain ⟨v, h1, h2⟩ := scores_real X hX b n c
    rw [block_scores, h1, h2]
  have h := pickAt_eq_place (block X b n) ⟨n.val % 256, Nat.mod_lt _ (by decide)⟩ (fun c => by
      obtain ⟨v, h1, _⟩ := scores_real X hX b n c
      rw [block_scores, h1]
      exact EReal.coe_ne_bot v) k
  rw [hk] at h
  rw [← h]
  unfold pickAt
  rw [pickCol_val]
  exact gIdx_toNat (F := Ideal) X b n k

end Cert.Proof.Knn

end
-- ==== Proof.Finite.lean ====
/-
  What the precondition says: every entry of the input is a real number.
-/
module

public import proofs.«01_k».proof.Proof.Gen.Pre_finite
public import proofs.«01_k».proof.Proof.Dist
public import Idealize.ShloMosaic.Lib.ReduceAll

@[expose] public section

noncomputable section

namespace Cert.Proof.KnnRef

open Idealize.ShloMosaic Idealize.ShloMosaic.ValueIdx
open Cert.Proof.Knn (Real3)

/-- The pattern of the infinite bound is the top element. -/
theorem inf_top : Ideal.ofBits .f32 0x7F800000#32 = (⊤ : EReal) := by simp [Ideal.ofBits, Ideal.ieee]

/-- A value whose magnitude lies below the top element is a real number. -/
theorem real_of_lt (x : EReal) (h : max x (-x) < ⊤) : ∃ v : ℝ, x = (v : EReal) := by
  induction x with
  | bot => simp at h
  | coe v => exact ⟨v, rfl⟩
  | top => simp at h

instance : Subsingleton Cert.Pre_finite.S_.Idx := ⟨fun a b => funext fun d => d.elim0⟩

/-- If the precondition's test of `X` is one, every entry of `X` is a real number. -/
theorem real_of_pre (X : FVec Ideal Cert.Pre_finite.S4x4096x3 .f32) (h : Cert.Pre_finite.fn (F := Ideal) X = fun _ => 1#1) : Real3 X := by
  intro i
  have e := Host.reduce_andi_all _ _ _ _ (fun d => d.elim0) (congrFun h (fun d => d.elim0)) i
  have e' : BitVec.ofBool (decide (max (X i) (-(X i)) < Ideal.ofBits .f32 0x7F800000#32)) = 1#1 := e
  rw [inf_top] at e'
  refine real_of_lt _ ?_
  by_contra hn
  rw [decide_eq_false hn] at e'
  exact absurd e' (by decide)

end Cert.Proof.KnnRef

end
-- ==== Proof.RefValue.lean ====
/-
  The reference's result at exact arithmetic: row `b`, `n`, `k` of it is the input's row at the k-th place of the stable descending
  sort of the scores of query `n` in cloud `b`.
-/
module

public import proofs.«01_k».proof.Proof.Gen.ReferenceIdeal.Run
public import proofs.«01_k».proof.Proof.Dist
public import Idealize.ShloMosaic.Lib.IdealHost
public import Idealize.ShloMosaic.Lib.Routing.Ops

@[expose] public section

noncomputable section

namespace Cert.Proof.KnnRef

open Cert.ReferenceIdeal Cert.ReferenceIdeal.Gen
open Idealize.ShloMosaic Idealize.ShloMosaic.ValueIdx
open Cert.Proof.Knn (dotOf minusTwo rscore place)
open scoped BigOperators

/-! ## The reference's intermediate arrays -/

/-- The points with their coordinates on the middle axis. -/
def flip (X : S4x4096x3.Idx → EReal) : FVec Ideal S4x3x4096 .f32 := transpose S4x3x4096 [0, 2, 1] (X : FVec Ideal S4x4096x3 .f32) transposes_S4x4096x3_S4x3x4096_0_2_1

/-- And back. -/
def flop (X : S4x4096x3.Idx → EReal) : FVec Ideal S4x4096x3 .f32 := transpose S4x4096x3 [0, 2, 1] (flip X) transposes_S4x3x4096_S4x4096x3_0_2_1

/-- The squared lengths, one per point. -/
def lens (X : S4x4096x3.Idx → EReal) : FVec Ideal S4x1x4096 .f32 :=
  broadcastInDim S4x1x4096 ![0, 2] bcast_S4x4096_S4x1x4096_0_2
    (Host.reduceAdd (mulf (flip X) (flip X)) (constant S_ .f32 0x00000000#32) reducesTo_S4x3x4096_S4x4096_d1 h_S_)

/-- The scores. -/
def dist (X : S4x4096x3.Idx → EReal) : FVec Ideal S4x4096x4096 .f32 :=
  subf (subf (broadcastInDim S4x4096x4096 ![0, 1, 2] bcast_S4x1x4096_S4x4096x4096_0_1_2 (Host.negf (lens X)))
      (mulf (broadcastInDim S4x4096x4096 ![] bcast_S_S4x4096x4096 (constant S_ .f32 0xC0000000#32))
        (Host.dotGeneral dot_S4x4096x3_S4x3x4096_S4x4096x4096_2_1_1_2_0_0 none (flop X) (flip X))))
    (broadcastInDim S4x4096x4096 ![0, 1, 2] bcast_S4x4096x1_S4x4096x4096_0_1_2
      (transpose S4x4096x1 [0, 2, 1] (lens X) transposes_S4x1x4096_S4x4096x1_0_2_1))

/-- The four nearest points of each query, numbered in its cloud. -/
def near (X : S4x4096x3.Idx → EReal) : IVec S4x4096x4 32 :=
  (Host.topK S4x4096x4 2 (FloatOps.cmpfTotal .gt) (dist X) sliceFits_S4x4096x4096_S4x4096x4).2

/-- The same, numbered in the whole input, in one row. -/
def flat (X : S4x4096x3.Idx → EReal) : IVec S65536 32 :=
  shapeCast _ (addi (near X) (broadcastInDim S4x4096x4 ![0, 1, 2] bcast_S4x1x1_S4x4096x4_0_1_2
    (muli (shapeCast _ (iotaInDim S4 32 0) shapeCasts_S4_S4x1x1) (broadcastInDim S4x1x1 ![] bcast_S_S4x1x1 (constantI S_ 32 4096#32))))) shapeCasts_S4x4096x4_S65536

/-- The result. -/
def rout (X : S4x4096x3.Idx → EReal) : S4x4096x4x3.Idx → EReal :=
  shapeCast S4x4096x4x3 (Host.gather gather_S16384x3_S65536x1_S65536x3_1_0_n_n_0_1_13 (shapeCast S16384x3 (flop X) shapeCasts_S4x4096x3_S16384x3)
    (broadcastInDim S65536x1 ![0] bcast_S65536_S65536x1_0
      (select (cmpi .slt (flat X) (broadcastInDim S65536 ![] bcast_S_S65536 (constantI S_ 32 0#32)))
        (addi (flat X) (broadcastInDim S65536 ![] bcast_S_S65536 (constantI S_ 32 16384#32))) (flat X)))) shapeCasts_S65536x3_S4x4096x4x3

theorem res_eq (m : (ℓ : Loc nD τ sig) → Buf (Elt Ideal) ℓ) (c : Dev nD) :
    Cert.ReferenceIdeal.Value.res_main_v30 m c = rout (m ((c.tc : Thread nD τ).loc main_arg0)) := rfl

/-! ## Read at an index -/

theorem flip_apply (X : S4x4096x3.Idx → EReal) (b : Fin 4) (d : Fin 3) (n : Fin 4096) : flip X (ix3 b d n) = X (ix3 b n d) :=
  transpose_ix3_021_apply _ transposes_S4x4096x3_S4x3x4096_0_2_1 b d n

theorem flop_apply (X : S4x4096x3.Idx → EReal) (b : Fin 4) (n : Fin 4096) (d : Fin 3) : flop X (ix3 b n d) = X (ix3 b n d) :=
  (transpose_ix3_021_apply _ transposes_S4x3x4096_S4x4096x3_0_2_1 b n d).trans (flip_apply X b d n)

theorem reducesMid : S4x3x4096.Reduces [1] S4x4096 := by decide

theorem lens_apply (X : S4x4096x3.Idx → EReal) (b : Fin 4) (n : Fin 4096) : lens X (ix3 b (0 : Fin 1) n) = dotOf X b n n := by
  unfold lens
  refine (broadcastInDim_apply ![0, 2] bcast_S4x4096_S4x1x4096_0_2 _ (ix3 b (0 : Fin 1) n) (ix2 b n) ?_).trans ?_
  · intro a
    match a with
    | ⟨0, _⟩ => rfl
    | ⟨1, _⟩ => rfl
  · rw [hostReduceAdd_apply]
    refine (Ideal.hostReduceAdd_single reducesTo_S4x3x4096_S4x4096_d1 reducesMid _ _ (ix2 b n)).trans ?_
    rw [constant_apply, Ideal.ofBits_zero_f32, zero_add]
    refine Finset.sum_congr rfl fun d _ => ?_
    have e : reducesMid.lift (ix2 b n) d = ix3 b (⟨d.val, d.isLt⟩ : Fin 3) n := by
      funext a
      apply Fin.ext
      match a with
      | ⟨0, _⟩ => rfl
      | ⟨1, _⟩ => rfl
      | ⟨2, _⟩ => rfl
    rw [e, mulf_apply, flip_apply]
    rfl

theorem dot_apply (X : S4x4096x3.Idx → EReal) (b : Fin 4) (n c : Fin 4096) :
    Host.dotGeneral (F := Ideal) dot_S4x4096x3_S4x3x4096_S4x4096x4096_2_1_1_2_0_0 none (flop X) (flip X) (ix3 b n c) = dotOf X b n c := by
  have hr : dot_S4x4096x3_S4x3x4096_S4x4096x4096_2_1_1_2_0_0.contr.rank = 1 := rfl
  have hs : dot_S4x4096x3_S4x3x4096_S4x4096x4096_2_1_1_2_0_0.contr.size ⟨0, by rw [hr]; exact Nat.one_pos⟩ = 3 := rfl
  refine (Ideal.dotGeneral_apply dot_S4x4096x3_S4x3x4096_S4x4096x4096_2_1_1_2_0_0 none _ (flop X) (flip X) (ix3 b n c)).trans ?_
  rw [← Equiv.sum_comp (contrEquiv1 _ 3 hr hs).symm]
  refine Finset.sum_congr rfl fun d _ => ?_
  have hk := contrEquiv1_symm_val _ 3 hr hs d
  have el : dot_S4x4096x3_S4x3x4096_S4x4096x4096_2_1_1_2_0_0.lhsIdx (ix3 b n c) ((contrEquiv1 _ 3 hr hs).symm d) = ix3 b n d := by
    funext a; apply Fin.ext
    match a with
    | ⟨0, _⟩ => rfl
    | ⟨1, _⟩ => rfl
    | ⟨2, _⟩ => exact hk
  have er : dot_S4x4096x3_S4x3x4096_S4x4096x4096_2_1_1_2_0_0.rhsIdx (ix3 b n c) ((contrEquiv1 _ 3 hr hs).symm d) = ix3 b d c := by
    funext a; apply Fin.ext
    match a with
    | ⟨0, _⟩ => rfl
    | ⟨1, _⟩ => exact hk
    | ⟨2, _⟩ => rfl
  rw [el, er, flop_apply, flip_apply]

theorem dist_apply (X : S4x4096x3.Idx → EReal) (b : Fin 4) (n c : Fin 4096) : dist X (ix3 b n c) = rscore X b n c := by
  unfold dist rscore
  rw [subf_apply, subf_apply, mulf_apply, dot_apply]
  have h1 : broadcastInDim S4x4096x4096 ![0, 1, 2] bcast_S4x1x4096_S4x4096x4096_0_1_2 (Host.negf (lens X)) (ix3 b n c) = -dotOf X b c c := by
    refine (broadcastInDim_apply ![0, 1, 2] bcast_S4x1x4096_S4x4096x4096_0_1_2 _ (ix3 b n c) (ix3 b (0 : Fin 1) c) ?_).trans ?_
    · intro a
      match a with
      | ⟨0, _⟩ => rfl
      | ⟨1, _⟩ => rfl
      | ⟨2, _⟩ => rfl
    · exact congrArg (fun x : EReal => -x) (lens_apply X b c)
  have h2 : broadcastInDim S4x4096x4096 ![0, 1, 2] bcast_S4x4096x1_S4x4096x4096_0_1_2
      (transpose S4x4096x1 [0, 2, 1] (lens X) transposes_S4x1x4096_S4x4096x1_0_2_1) (ix3 b n c) = dotOf X b n n := by
    refine (broadcastInDim_apply ![0, 1, 2] bcast_S4x4096x1_S4x4096x4096_0_1_2 _ (ix3 b n c) (ix3 b n (0 : Fin 1)) ?_).trans ?_
    · intro a
      match a with
      | ⟨0, _⟩ => rfl
      | ⟨1, _⟩ => rfl
      | ⟨2, _⟩ => rfl
    · exact (transpose_ix3_021_apply _ transposes_S4x1x4096_S4x4096x1_0_2_1 b n (0 : Fin 1)).trans (lens_apply X b n)
  have h3 : broadcastInDim S4x4096x4096 ![] bcast_S_S4x4096x4096 (constant (F := Ideal) S_ .f32 0xC0000000#32) (ix3 b n c) = minusTwo := rfl
  rw [h1, h2, h3]

/-- The indices of the K greatest along the last axis, read at an index: the places of the stable descending sort of that row. -/
theorem topK_place {A B N K : ℕ} (x : (⟨3, ![A, B, N]⟩ : Shape).Idx → EReal)
    (h : (⟨3, ![A, B, N]⟩ : Shape).Slices (fun _ => 0) ⟨3, ![A, B, K]⟩) (hK : K ≤ N) (b : Fin A) (n : Fin B) (k : Fin K) :
    (Host.topK ⟨3, ![A, B, K]⟩ 2 (FloatOps.cmpfTotal (F := Ideal) (φ := .f32) .gt) x h).2 (ix3 b n k)
      = BitVec.ofNat 32 (place (fun c => x (ix3 b n c)) (k.castLE hK)).val := by
  unfold Host.topK
  dsimp only
  refine (extractStridedSlice_apply _ _ h (ix3 b n k) (ix3 b n (k.castLE hK)) ?_).trans ?_
  · intro a
    match a with
    | ⟨0, _⟩ => exact (Nat.zero_add _).symm
    | ⟨1, _⟩ => exact (Nat.zero_add _).symm
    | ⟨2, _⟩ => exact (Nat.zero_add _).symm
  · have along : ∀ (j c : Fin N), Shape.Idx.along (s := ⟨3, ![A, B, N]⟩) (ix3 b n j) (2 : Fin 3) c = ix3 b n c := by
      intro j c
      funext a
      match a with
      | ⟨0, _⟩ => rfl
      | ⟨1, _⟩ => rfl
      | ⟨2, _⟩ => rfl
    unfold Host.sort2
    rw [dif_pos (show 2 < 3 by decide)]
    dsimp only
    rw [dif_pos (show 2 < 3 by decide)]
    show BitVec.ofNat 32 (sortedFrom (fun c c' => FloatOps.cmpfTotal (F := Ideal) (φ := .f32) .gt
        (x (Shape.Idx.along (s := ⟨3, ![A, B, N]⟩) (ix3 b n (k.castLE hK)) (2 : Fin 3) c))
        (x (Shape.Idx.along (s := ⟨3, ![A, B, N]⟩) (ix3 b n (k.castLE hK)) (2 : Fin 3) c')) == 1#1) (k.castLE hK)).val = _
    have hcmp : (fun c c' : Fin N => FloatOps.cmpfTotal (F := Ideal) (φ := .f32) .gt
        (x (Shape.Idx.along (s := ⟨3, ![A, B, N]⟩) (ix3 b n (k.castLE hK)) (2 : Fin 3) c))
        (x (Shape.Idx.along (s := ⟨3, ![A, B, N]⟩) (ix3 b n (k.castLE hK)) (2 : Fin 3) c')) == 1#1)
        = fun c c' => FloatOps.cmpfTotal (F := Ideal) (φ := .f32) .gt (x (ix3 b n c)) (x (ix3 b n c')) == 1#1 := by
      funext c c'
      rw [along, along]
    exact congrArg (fun g : Fin N → Fin N → Bool => BitVec.ofNat 32 (sortedFrom g (k.castLE hK)).val) hcmp

theorem near_apply (X : S4x4096x3.Idx → EReal) (b : Fin 4) (n : Fin 4096) (k : Fin 4) :
    near X (ix3 b n k) = BitVec.ofNat 32 (place (rscore X b n) (k.castLE (by decide))).val := by
  have hsc : (fun c : Fin 4096 => dist X (ix3 b n c)) = rscore X b n := funext fun c => dist_apply X b n c
  rw [← hsc]
  exact topK_place (dist X) sliceFits_S4x4096x4096_S4x4096x4 (by decide) b n k

/-- The place of result row `b`, `n`, `k` among the rows in one. -/
def row (b : Fin 4) (n : Fin 4096) (k : Fin 4) : Fin 65536 := ⟨(b.val * 4096 + n.val) * 4 + k.val, by omega⟩

/-- The word at that place: the cloud's first row plus the place in the cloud. -/
theorem flat_apply (X : S4x4096x3.Idx → EReal) (b : Fin 4) (n : Fin 4096) (k : Fin 4) :
    flat X (ix1 (row b n k)) = BitVec.ofNat 32 (b.val * 4096 + (place (rscore X b n) (k.castLE (by decide))).val) := by
  unfold flat
  refine (shapeCast_apply _ shapeCasts_S4x4096x4_S65536 (ix1 (row b n k)) (ix3 b n k) ?_).trans ?_
  · rw [Shape.rowMajor_val_three, Shape.rowMajor_val_one]
    show (b.val * 4096 + n.val) * 4 + k.val = _
    rfl
  · have hb : broadcastInDim S4x4096x4 ![0, 1, 2] bcast_S4x1x1_S4x4096x4_0_1_2
        (muli (shapeCast _ (iotaInDim S4 32 0) shapeCasts_S4_S4x1x1) (broadcastInDim S4x1x1 ![] bcast_S_S4x1x1 (constantI S_ 32 4096#32)))
        (ix3 b n k) = BitVec.ofNat 32 (b.val * 4096) := by
      refine (broadcastInDim_apply ![0, 1, 2] bcast_S4x1x1_S4x4096x4_0_1_2 _ (ix3 b n k) (ix3 b (0 : Fin 1) (0 : Fin 1)) ?_).trans ?_
      · intro a
        match a with
        | ⟨0, _⟩ => rfl
        | ⟨1, _⟩ => rfl
        | ⟨2, _⟩ => rfl
      · have hs : shapeCast S4x1x1 (iotaInDim S4 32 0) shapeCasts_S4_S4x1x1 (ix3 b (0 : Fin 1) (0 : Fin 1)) = BitVec.ofNat 32 b.val := by
          refine (shapeCast_apply _ shapeCasts_S4_S4x1x1 (ix3 b (0 : Fin 1) (0 : Fin 1)) (ix1 b) ?_).trans rfl
          rw [Shape.rowMajor_val_three, Shape.rowMajor_val_one]
          show b.val = (b.val * 1 + 0) * 1 + 0
          omega
        show shapeCast S4x1x1 (iotaInDim S4 32 0) shapeCasts_S4_S4x1x1 (ix3 b (0 : Fin 1) (0 : Fin 1)) * 4096#32 = _
        rw [hs]
        apply BitVec.eq_of_toNat_eq
        simp [BitVec.toNat_mul]
    show near X (ix3 b n k) + _ = _
    rw [near_apply]
    refine (congrArg (fun z : BitVec 32 => BitVec.ofNat 32 (place (rscore X b n) (k.castLE (by decide))).val + z) hb).trans ?_
    apply BitVec.eq_of_toNat_eq
    simp only [BitVec.toNat_add, BitVec.toNat_ofNat]
    omega

/-- Row `b`, `n`, `k` of the reference's result is the input's row at the k-th place of the sort of the scores. -/
theorem rout_apply (X : S4x4096x3.Idx → EReal) (b : Fin 4) (n : Fin 4096) (k : Fin 4) (d : Fin 3) :
    rout X (ix4 b n k d) = X (ix3 b (place (rscore X b n) (k.castLE (by decide))) d) := by
  have hp := (place (rscore X b n) (k.castLE (by decide))).isLt
  have hfl := flat_apply X b n k
  generalize place (rscore X b n) (k.castLE (by decide)) = p at hp hfl ⊢
  have hr : b.val * 4096 + p.val < 16384 := by omega
  unfold rout
  refine (shapeCast_apply _ shapeCasts_S65536x3_S4x4096x4x3 (ix4 b n k d) (ix2 (row b n k) d) ?_).trans ?_
  · rw [Shape.rowMajor_val_four, Shape.rowMajor_val_two]
    rfl
  · refine (Routing.gather_row gather_S16384x3_S65536x1_S65536x3_1_0_n_n_0_1_13 rfl rfl rfl rfl rfl _ _ (row b n k) d
      (⟨b.val * 4096 + p.val, hr⟩ : Fin 16384) ?_ (by decide)).trans ?_
    · refine (broadcastInDim_apply ![0] bcast_S65536_S65536x1_0 _ (ix2 (row b n k) (0 : Fin 1)) (ix1 (row b n k)) ?_).trans ?_
      · intro a
        match a with
        | ⟨0, _⟩ => rfl
      · have hn : ¬ (flat X (ix1 (row b n k))).slt 0#32 := by
          rw [hfl, BitVec.slt_iff_toInt_lt, StableHlo.Predicate.toInt_ofNat_small _ (by omega)]
          simp
          omega
        show (if BitVec.ofBool ((flat X (ix1 (row b n k))).slt 0#32) = 1#1 then _ else flat X (ix1 (row b n k))) = _
        rw [Bool.eq_false_iff.mpr hn]
        exact hfl
    · refine (shapeCast_apply _ shapeCasts_S4x4096x3_S16384x3 (ix2 (⟨b.val * 4096 + p.val, hr⟩ : Fin 16384) d) (ix3 b p d) ?_).trans
        (flop_apply X b p d)
      rw [Shape.rowMajor_val_three, Shape.rowMajor_val_two]
      rfl

end Cert.Proof.KnnRef

end
-- ==== Proof.Agree.lean ====
/-
  On real inputs the kernel's result is the reference's.
-/
module

public import proofs.«01_k».proof.Proof.RefValue
public import proofs.«01_k».proof.Proof.Main

@[expose] public section

noncomputable section

namespace Cert.Proof.KnnRef

open Idealize.ShloMosaic Idealize.ShloMosaic.ValueIdx
open Cert.Proof.Knn (rscore place Real3 gIdx gIdx_place kout)

/-- Row `b`, `n`, `k` of the kernel's result is the input's row at the k-th place of the sort of the scores. -/
theorem kout_apply (X : Cert.KernelIdeal.S4x4096x3.Idx → EReal) (hX : Real3 X) (b : Fin 4) (n : Fin 4096) (k : Fin 4) (d : Fin 3) :
    kout (F := Ideal) X (ix4 b n k d) = X (ix3 b (place (rscore X b n) (k.castLE (by decide))) d) := by
  have hg := gIdx_place X hX b n k
  have hp := (place (rscore X b n) (k.castLE (by decide))).isLt
  generalize place (rscore X b n) (k.castLE (by decide)) = p at hp hg ⊢
  show X (ix3 (⟨(gIdx (F := Ideal) X (ix3 b n k)).toNat % 16384 / 4096, _⟩ : Fin 4) (⟨(gIdx (F := Ideal) X (ix3 b n k)).toNat % 4096, _⟩ : Fin 4096) d) = _
  have h1 : (gIdx (F := Ideal) X (ix3 b n k)).toNat % 16384 / 4096 = b.val := by rw [hg]; omega
  have h2 : (gIdx (F := Ideal) X (ix3 b n k)).toNat % 4096 = p.val := by rw [hg]; omega
  exact congrArg₂ (fun u v => X (ix3 u v d)) (Fin.ext h1) (Fin.ext h2)

/-- The two results agree. -/
theorem kout_eq_rout (X : Cert.KernelIdeal.S4x4096x3.Idx → EReal) (hX : Real3 X) : kout (F := Ideal) X = rout X := by
  funext i
  have hi : i = ix4 (i 0 : Fin 4) (i 1 : Fin 4096) (i 2 : Fin 4) (i 3 : Fin 3) := by
    funext a
    match a with
    | ⟨0, _⟩ => rfl
    | ⟨1, _⟩ => rfl
    | ⟨2, _⟩ => rfl
    | ⟨3, _⟩ => rfl
  rw [hi]
  exact (kout_apply X hX (i 0) (i 1) (i 2) (i 3)).trans (rout_apply X (i 0) (i 1) (i 2) (i 3)).symm

end Cert.Proof.KnnRef

end
-- ==== Proof.lean ====
/-
  The proof of `Cert.Claim`: the frames of the printed kernel, of the same program at exact arithmetic and of the reference, that
  the two kernels are one program, and the equation of the kernel's result with the reference's on finite inputs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Main
public import proofs.«01_k».proof.Proof.Finite
public import proofs.«01_k».proof.Proof.Agree
public import Idealize.ShloMosaic.Adequacy
public import Idealize.ShloMosaic.Init

@[expose] public section

noncomputable section

namespace Cert.Proof

open Idealize.ShloMosaic Idealize.SL.Sem Cert.Proof.Knn

/-- The printed kernel and the same program at exact arithmetic have the same kernel bodies. -/
theorem bodies_same {F : FTy → Type} [FloatOps F] : Cert.Kernel.defs₀ (F := F) = Cert.KernelIdeal.defs₀ (F := F) := by
  funext p l a
  rcases p with _ | _ | ⟨c, s⟩ <;> match l, a with
  | 0, a => rfl
  | 1, a => rfl

/-- So they run the same definitions. -/
theorem defs_same {F : FTy → Type} [FloatOps F] : Cert.Kernel.defs (F := F) = Cert.KernelIdeal.defs (F := F) :=
  congrArg (fun x => Cert.KernelIdeal.sc.defs (Pipeline.defs Cert.KernelIdeal.pcfgs x)) bodies_same

/-- The printed kernel's frame: from every launch memory it ends, the input unchanged, every semaphore at zero. -/
theorem frame_kernel : Cert.quiescent_Kernel := by
  intro m ρ _
  rw [defs_same]
  exact (θ_run Cert.KernelIdeal.defs _ _).mono (fun _ h => ⟨fun c => (h.1 c).1, h.2⟩) (run_main (F := Bits) m ρ)

/-- The same of the kernel at exact arithmetic. -/
theorem frame_ideal : Cert.quiescent_KernelIdeal := fun m ρ _ =>
  (θ_run Cert.KernelIdeal.defs _ _).mono (fun _ h => ⟨fun c => (h.1 c).1, h.2⟩) (run_main (F := Ideal) m ρ)

/-- And on finite inputs. -/
theorem frame_ideal_finite : Cert.quiescent_KernelIdeal_pre_finite := fun m ρ _ =>
  (θ_run Cert.KernelIdeal.defs _ _).mono (fun _ h => ⟨fun c => (h.1 c).1, h.2⟩) (run_main (F := Ideal) m ρ)

/-- The reference's frame: it ends, the input unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And on finite inputs. -/
theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite inputs the kernel and the reference, at exact arithmetic, end with the same result, their inputs unchanged. -/
theorem equal_results : Cert.algebraic_KernelIdeal_ReferenceIdeal_pre_finite := by
  intro m ρ m' ρ' hpre hargs
  refine ⟨fun c => kout (inp m c), ?_, ?_⟩
  · exact (θ_run Cert.KernelIdeal.defs _ _).mono (fun _ h c => ⟨(h.1 c).2, (h.1 c).1⟩) (run_main (F := Ideal) m ρ)
  · refine (θ_run Cert.ReferenceIdeal.defs _ _).mono (fun r h c => ⟨(h c).1.trans ?_, (h c).2⟩) (Cert.ReferenceIdeal.Value.run (F := Ideal) m' ρ')
    rw [KnnRef.res_eq, hargs c]
    exact (KnnRef.kout_eq_rout (inp m c) (KnnRef.real_of_pre (inp m c) (hpre c))).symm

/-- Every claim. -/
theorem claim : Cert.Claim := ⟨Cert.Kernel.Gen.facts, Cert.KernelIdeal.Gen.facts, Cert.ReferenceIdeal.Gen.facts, Cert.Pre_finite.Gen.facts,
  frame_kernel, frame_ideal, frame_ideal_finite, frame_reference, frame_reference_finite, trivial, equal_results⟩

end Cert.Proof

end
